-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x8 .bf16) (main_arg2 : IVec S512x1 32) (main_arg3 : FVec F S2x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 8#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routed_ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x8 .bf16) (main_arg2 : IVec S512x1 32) (main_arg3 : FVec F S8x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 8#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S1x512 : Shape := ⟨2, ![1, 512]⟩
abbrev S512x512 : Shape := ⟨2, ![512, 512]⟩
abbrev S4x112x512 : Shape := ⟨3, ![4, 112, 512]⟩
abbrev S3 : Shape := ⟨1, ![3]⟩
abbrev S4 : Shape := ⟨1, ![4]⟩
abbrev S_ : Shape := ⟨0, ![]⟩
abbrev S8x512 : Shape := ⟨2, ![8, 512]⟩
abbrev S512 : Shape := ⟨1, ![512]⟩
abbrev S112x512 : Shape := ⟨2, ![112, 512]⟩
abbrev S112x256 : Shape := ⟨2, ![112, 256]⟩
abbrev S1x256x512 : Shape := ⟨3, ![1, 256, 512]⟩
abbrev S256x512 : Shape := ⟨2, ![256, 512]⟩
abbrev S1x112x512 : Shape := ⟨3, ![1, 112, 512]⟩
abbrev S1 : Shape := ⟨1, ![1]⟩
abbrev S512x8 : Shape := ⟨2, ![512, 8]⟩
abbrev S512x448 : Shape := ⟨2, ![512, 448]⟩
abbrev S448x512 : Shape := ⟨2, ![448, 512]⟩

abbrev nBuf : Space → Nat
  | .hbm => 6
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S2x256x512, .bf16⟩
  | .hbm, ⟨4, _⟩ => ⟨S1x512, .i32⟩
  | .hbm, ⟨5, _⟩ => ⟨S512x512, .bf16⟩
  | .local _ .vmem, ⟨0, _⟩ => ⟨S512x256, .bf16⟩
  | .local _ .vmem, ⟨1, _⟩ => ⟨S512x1, .i32⟩
  | .local _ .vmem, ⟨2, _⟩ => ⟨S1x512, .i32⟩
  | .local _ .vmem, ⟨3, _⟩ => ⟨S2x256x512, .bf16⟩
  | .local _ .vmem, ⟨4, _⟩ => ⟨S512x512, .bf16⟩
  | .local _ .vmem, ⟨5, _⟩ => ⟨S4x112x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : Index := Scalar.indexCast v2
  let c0_32 : Index := 0#32
  let c0_33 : Index := 0#32
  ![v81.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let c0_i32_39 : BitVec 32 := 0#32
  ![v2.toNat, 0, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_36 : BitVec 32 := 1#32
  let v85 : BitVec 32 := Scalar.muli v4 c1_i32_36
  let v86 : BitVec 32 := Scalar.addi c0_i32_37 v85
  v86.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_43 : BitVec 32 := 1#32
  let v95 : BitVec 32 := Scalar.muli v6 c1_i32_43
  let v96 : BitVec 32 := Scalar.addi c0_i32_44 v95
  v96.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_50 : BitVec 32 := 1#32
  let v105 : BitVec 32 := Scalar.muli v8 c1_i32_50
  let v106 : BitVec 32 := Scalar.addi c0_i32_51 v105
  v106.toNat
def k0_off4 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  ![v4.toNat]
def k0_off5 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c0_i32_75 : BitVec 32 := 0#32
  let c0_i32_76 : BitVec 32 := 0#32
  ![v4.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S8x256x512, .bf16⟩
  | .hbm, ⟨4, _⟩ => ⟨S512, .i32⟩
  | .hbm, ⟨5, _⟩ => ⟨S512, .i32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S512x256, .f32⟩
  | .hbm, ⟨21, _⟩ => ⟨S8x256x512, .f32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S512x256x512, .f32⟩
  | .hbm, ⟨31, _⟩ => ⟨S512x512, .f32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512x1, .i1⟩
  | .hbm, ⟨36, _⟩ => ⟨S_, .f32⟩
  | .hbm, ⟨37, _⟩ => ⟨S_, .f32⟩
  | .hbm, ⟨38, _⟩ => ⟨S512x512, .i1⟩
  | .hbm, ⟨39, _⟩ => ⟨S512x512, .f32⟩
  | .hbm, ⟨40, _⟩ => ⟨S512x512, .f32⟩
  | .hbm, ⟨41, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Proto.lean ====
/-
  The exchange: its semaphore cells, what a slot of the gathered buffer is, the schedule of duties with the payload of
  each, what a device owes at launch and the levels it waits at.
-/
module

public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- Ghost state: the staging pipeline's and the exchange's, whose duties are named by the device that pays. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Peers and cells -/

/-- Device `c`'s peer number `j`: `j + 1` further on, around the four. -/
def pr (c : Dev nD) (j : Fin 3) : Dev nD := ⟨(c.val + j.val + 1) % 4, Nat.mod_lt _ (by decide)⟩

/-- The peers of a device are the three others. -/
theorem others (c : Dev nD) : (Finset.univ.erase c : Finset (Dev nD)) = {pr c 0, pr c 1, pr c 2} := by revert c; decide
/-- A device and its peers are all four. -/
theorem everyone (c : Dev nD) : (Finset.univ : Finset (Dev nD)) = {c, pr c 0, pr c 1, pr c 2} := by revert c; decide
theorem pr_ne (c : Dev nD) (j : Fin 3) : pr c j ≠ c := by revert c j; decide
theorem pr01 (c : Dev nD) : pr c 0 ≠ pr c 1 := by revert c; decide
theorem pr02 (c : Dev nD) : pr c 0 ≠ pr c 2 := by revert c; decide
theorem pr12 (c : Dev nD) : pr c 1 ≠ pr c 2 := by revert c; decide

abbrev barS : Sem sig := (SemArray.scalar (sig.barrier 0 rfl) : Sems sig S_).sem
def sendS (j : Fin 3) : DmaSem sig := ⟨5 + j.val, by have := j.isLt; show 5 + j.val < 12; omega⟩
def recvS (k : Fin 4) : DmaSem sig := ⟨8 + k.val, by have := k.isLt; show 8 + k.val < 12; omega⟩

abbrev barCell (c : Dev nD) : GSem nD τ sig := ((c : Thread nD τ), .reg barS)
abbrev sendCell (c : Dev nD) (j : Fin 3) : GSem nD τ sig := ((c : Thread nD τ), .dma (sendS j))
abbrev recvCell (c : Dev nD) (k : Dev nD) : GSem nD τ sig := ((c : Thread nD τ), .dma (recvS k))

/-- What a semaphore is to the exchange. -/
inductive Role where
  | bar
  | send (j : Fin 3)
  | recv (k : Dev nD)
  | other
deriving DecidableEq

/-- A semaphore's part in the exchange, read off its number. -/
def role : SemLoc sig → Role
  | .reg s => if s = barS then .bar else .other
  | .dma s =>
    if h : 5 ≤ s.val ∧ s.val < 8 then .send ⟨s.val - 5, by omega⟩
    else if h : 8 ≤ s.val then .recv ⟨s.val - 8, by have : s.val < 12 := s.isLt; show s.val - 8 < 4; omega⟩
    else .other

theorem role_bar : role (.reg barS) = .bar := by decide
theorem role_send (j : Fin 3) : role (.dma (sendS j)) = .send j := by revert j; decide
theorem role_recv (k : Dev nD) : role (.dma (recvS k)) = .recv k := by revert k; decide

/-! ## Slots of the gathered buffer -/

/-- The elements of slot `k`: those of leading coordinate `k`. -/
def slotSet (k : Dev nD) : Finset S4x112x512.Idx := Finset.univ.filter fun i => (i 0).val = k.val

theorem slots_disjoint {k k' : Dev nD} (h : k ≠ k') : Disjoint (slotSet k) (slotSet k') :=
  Finset.disjoint_left.mpr fun i hi hi' => h (Fin.ext ((Finset.mem_filter.mp hi).2.symm.trans (Finset.mem_filter.mp hi').2))

theorem slots_cover (h : DecidableEq S4x112x512.Idx) : (Finset.univ : Finset (Dev nD)).biUnion slotSet = Finset.univ := by
  ext i
  simp only [Finset.mem_biUnion, Finset.mem_univ, true_and, iff_true]
  exact ⟨⟨(i 0).val, (i 0).isLt⟩, Finset.mem_filter.mpr ⟨Finset.mem_univ _, rfl⟩⟩

theorem slot_inb (k : Dev nD) : ∀ a, (![k.val, 0, 0] : Fin 3 → ℕ) a + S1x112x512.size a ≤ S4x112x512.size a := by
  revert k; decide

/-- Slot `k` as a memref: the block at leading coordinate `k`, its unit axis dropped. -/
abbrev slotM (k : Dev nD) : Memref sig .tc .vmem S112x512 .bf16 :=
  ((Memref.whole cc0_scratch0 : Memref sig .tc .vmem S4x112x512 .bf16).slice
    (Rect.unit (s := S4x112x512) ![k.val, 0, 0] S1x112x512.size (slot_inb k)) (fun _ => rfl)).squeeze S112x512 squeezes_S1x112x512_S112x512

/-- The block at leading coordinate `k` is that slot's elements. -/
theorem mem_slotRect (k : Dev nD) (i : S4x112x512.Idx) :
    i ∈ (Rect.unit (s := S4x112x512) ![k.val, 0, 0] S1x112x512.size (slot_inb k)).set ↔ i ∈ slotSet k := by
  rw [Rect.mem_set_unit]
  unfold slotSet
  rw [Finset.mem_filter]
  constructor
  · intro h
    have h0 := h 0
    exact ⟨Finset.mem_univ _, Nat.le_antisymm (Nat.lt_succ_iff.mp h0.2) h0.1⟩
  · rintro ⟨-, h⟩ a
    match a with
    | 0 => exact ⟨h.ge, Nat.lt_succ_of_le h.le⟩
    | 1 => exact ⟨Nat.zero_le _, by have := (i 1).isLt; simpa using this⟩
    | 2 => exact ⟨Nat.zero_le _, by have := (i 2).isLt; simpa using this⟩

theorem slotM_set (k : Dev nD) : (slotM k).view.set = slotSet k := by
  show (((View.whole cc0_scratch0).slice _).reshape _ _).set = _
  rw [View.set_reshape, View.set_slice_whole]
  ext i
  exact mem_slotRect k i

/-- Device `c`'s slot `k`, at share `q`, holding what `f` has there. -/
abbrev slotPt (c k : Dev nD) (q : PosShare TreeShare) (f : Vec F S4x112x512 .bf16) : sProp 𝕄 :=
  ((c : Thread nD τ).loc cc0_scratch0) ↦[slotSet k]{q} f

/-- Over the devices: the device itself and its three peers. -/
theorem bigSep_devices {M : Type} [URA M] (c : Dev nD) (Φ : Dev nD → sProp M) :
    bigSep Finset.univ Φ = iprop(Φ c ∗ Φ (pr c 0) ∗ Φ (pr c 1) ∗ Φ (pr c 2)) := by
  rw [everyone c, bigSep_insert (by revert c; decide), bigSep_insert (by revert c; decide), bigSep_insert (by revert c; decide), bigSep_singleton]
  rfl

/-- A device's gathered buffer, whole, is its four slots. -/
theorem slots_split (c : Dev nD) (q : PosShare TreeShare) (f : Vec F S4x112x512 .bf16) :
    (((c : Thread nD τ).loc cc0_scratch0) ↦{q} f : sProp 𝕄)
      = iprop(slotPt c c q f ∗ slotPt c (pr c 0) q f ∗ slotPt c (pr c 1) q f ∗ slotPt c (pr c 2) q f) := by
  refine Eq.trans ?_ (bigSep_devices c fun k => (slotPt c k q f : sProp 𝕄))
  exact (congrArg (fun I => (((c : Thread nD τ).loc cc0_scratch0) ↦[I]{q} f : sProp 𝕄)) (slots_cover _).symm).trans
    (pointsTo_biUnion (ℓ := (c : Thread nD τ).loc cc0_scratch0) Finset.univ slotSet fun _ _ _ _ hne => slots_disjoint hne)

/-! ## Shares of the own slot: one per send, one kept to read -/

abbrev keptShare : PosShare TreeShare := fullShare.left
abbrev lentShare : PosShare TreeShare := fullShare.right
def sendShare : Fin 3 → PosShare TreeShare
  | 0 => lentShare.left
  | 1 => lentShare.right.left
  | 2 => lentShare.right.right

theorem slot_halves (c k : Dev nD) (f : Vec F S4x112x512 .bf16) :
    (slotPt c k fullShare f : sProp 𝕄) ⊣⊢ iprop(slotPt c k keptShare f ∗ slotPt c k lentShare f) :=
  pointsTo_share (PosShare.mem_left_op_right _)

theorem lent_split (c k : Dev nD) (f : Vec F S4x112x512 .bf16) :
    (slotPt c k lentShare f : sProp 𝕄) ⊣⊢ iprop(slotPt c k (sendShare 0) f ∗ slotPt c k lentShare.right f) :=
  pointsTo_share (PosShare.mem_left_op_right _)

theorem lent_split' (c k : Dev nD) (f : Vec F S4x112x512 .bf16) :
    (slotPt c k lentShare.right f : sProp 𝕄) ⊣⊢ iprop(slotPt c k (sendShare 1) f ∗ slotPt c k (sendShare 2) f) :=
  pointsTo_share (PosShare.mem_left_op_right _)

/-! ## The schedule -/

/-- What one slot's transfer credits. -/
abbrev N : ℕ := (slotM 0).view.dmaCredit
theorem N_pos : 0 < N := View.dmaCredit_pos _ (by decide)

variable (G : Vec F S4x112x512 .bf16)

/-- Device `d`'s signal to `p`: `d`'s slot `p`, at any contents, and that round 0 of the cell that slot's transfer pays is reached. -/
def barPay (p d : Dev nD) : sProp 𝕄 := iprop((∃ f, slotPt d p fullShare f) ∗ reached ER (recvCell d p) 0)

/-- Who pays round 0 of a cell of device `c`: the barrier every other device, a receive cell of a peer that peer, a send cell the
    device itself. -/
def payers (c : Dev nD) : Role → Finset (Dev nD)
  | .bar => Finset.univ.erase c
  | .send _ => {c}
  | .recv k => if k = c then ∅ else {k}
  | .other => ∅

/-- What is paid. The receive cell of peer `k` gets slot `k` at the gathered contents `G`; a send cell its share of the own slot. -/
def pay (c : Dev nD) : Role → Dev nD → sProp 𝕄
  | .bar, d => barPay c d
  | .send j, _ => slotPt c c (sendShare j) G
  | .recv k, _ => slotPt c k fullShare G
  | .other, _ => iprop(emp)

/-- What is credited: a unit on the barrier, a slot's credit elsewhere. -/
def amt : Role → ℕ
  | .bar => 1
  | _ => N
theorem amt_pos (r : Role) : 0 < amt r := by
  cases r
  · exact Nat.one_pos
  all_goals exact N_pos

/-- One round on every cell of the exchange: a unit on the barrier, a slot's credit elsewhere. -/
def rd : Rounds.Schedule (GSem nD τ sig) (Dev nD) 𝕄 where
  duties g r := if r = 0 ∧ g.1.2 = .tc then payers g.1.1 (role g.2) else ∅
  unitless _ := False
  amount g _ _ := amt (role g.2)
  payload g _ d := pay G g.1.1 (role g.2) d
  amount_pos g _ _ _ := amt_pos _

instance rd_storable (g : GSem nD τ sig) (r : ℕ) (d : Dev nD) : BI.Storable (upEmb : UEmb _ 𝕄) ((rd G).payload g r d) := by
  show BI.Storable upEmb (pay G g.1.1 (role g.2) d)
  unfold pay
  split
  · unfold barPay; infer_instance
  all_goals infer_instance

section Sched
variable (c : Dev nD)

theorem duties_bar : (rd G).duties (barCell c) 0 = Finset.univ.erase c := by
  dsimp only [rd]; rw [if_pos ⟨rfl, rfl⟩, role_bar]; rfl
theorem duties_send (j : Fin 3) : (rd G).duties (sendCell c j) 0 = {c} := by
  dsimp only [rd]; rw [if_pos ⟨rfl, rfl⟩, role_send]; rfl
theorem duties_recv {k : Dev nD} (h : k ≠ c) : (rd G).duties (recvCell c k) 0 = {k} := by
  dsimp only [rd]; rw [if_pos ⟨rfl, rfl⟩, role_recv]; exact if_neg h
theorem duties_self (r : ℕ) : (rd G).duties (recvCell c c) r = ∅ := by
  dsimp only [rd]; split
  · rw [role_recv]; exact if_pos rfl
  · rfl
theorem duties_later (g : GSem nD τ sig) : ∀ r, 1 ≤ r → (rd G).duties g r = ∅ :=
  fun r hr => by dsimp only [rd]; exact if_neg fun h => by omega

theorem amount_bar (d : Dev nD) : (rd G).amount (barCell c) 0 d = 1 := by dsimp only [rd]; rw [role_bar]; rfl
theorem amount_send (j : Fin 3) (d : Dev nD) : (rd G).amount (sendCell c j) 0 d = N := by dsimp only [rd]; rw [role_send]; rfl
theorem amount_recv (k d : Dev nD) : (rd G).amount (recvCell c k) 0 d = N := by dsimp only [rd]; rw [role_recv]; rfl

theorem expect_bar : (rd G).expect (barCell c) 0 = 3 := by
  unfold Schedule.expect Schedule.amountOf
  rw [duties_bar, Finset.sum_congr rfl fun d _ => amount_bar G c d, Finset.sum_const, smul_eq_mul, mul_one]
  revert c; decide
theorem expect_send (j : Fin 3) : (rd G).expect (sendCell c j) 0 = N := by
  unfold Schedule.expect Schedule.amountOf; rw [duties_send, Finset.sum_singleton, amount_send]
theorem expect_recv {k : Dev nD} (h : k ≠ c) : (rd G).expect (recvCell c k) 0 = N := by
  unfold Schedule.expect Schedule.amountOf; rw [duties_recv G c h, Finset.sum_singleton, amount_recv]

theorem payload_bar (d : Dev nD) : (rd G).payload (barCell c) 0 d = barPay c d := by dsimp only [rd]; rw [role_bar]; rfl
theorem payload_send (j : Fin 3) (d : Dev nD) : (rd G).payload (sendCell c j) 0 d = slotPt c c (sendShare j) G := by
  dsimp only [rd]; rw [role_send]; rfl
theorem payload_recv (k d : Dev nD) : (rd G).payload (recvCell c k) 0 d = slotPt c k fullShare G := by
  dsimp only [rd]; rw [role_recv]; rfl

/-- All that the barrier's round brings: each peer's slot for this device, and that the peer's receive cell is open. -/
theorem rest_bar : bigSep ((rd G).duties (barCell c) 0 \ ∅) (fun d => (rd G).payload (barCell c) 0 d)
    = iprop(barPay c (pr c 0) ∗ barPay c (pr c 1) ∗ barPay c (pr c 2)) := by
  rw [Finset.sdiff_empty, duties_bar, others, bigSep_insert (by revert c; decide), bigSep_insert (by revert c; decide), bigSep_singleton]
  rfl
theorem rest_send (j : Fin 3) : bigSep ((rd G).duties (sendCell c j) 0 \ ∅) (fun d => (rd G).payload (sendCell c j) 0 d)
    = slotPt c c (sendShare j) G := by
  rw [Finset.sdiff_empty, duties_send, bigSep_singleton, payload_send]
theorem rest_recv {k : Dev nD} (h : k ≠ c) : bigSep ((rd G).duties (recvCell c k) 0 \ ∅) (fun d => (rd G).payload (recvCell c k) 0 d)
    = slotPt c k fullShare G := by
  rw [Finset.sdiff_empty, duties_recv G c h, bigSep_singleton, payload_recv]

end Sched

/-! ## What a device owes at launch; the levels -/

/-- The credit its transfer to peer `j` brings there. -/
abbrev oweRecv (c : Dev nD) (j : Fin 3) : CellTallies nD τ sig Unit := tallyAt (recvCell (pr c j) c) () N
/-- The unit its signal to peer `j` brings there. -/
abbrev oweBar (c : Dev nD) (j : Fin 3) : CellTallies nD τ sig Unit := tallyAt (barCell (pr c j)) () 1

/-- The three transfers, then the three signals; the last summand is paid first. -/
def O₀ (c : Dev nD) : CellTallies nD τ sig Unit :=
  oweRecv c 2 + oweRecv c 1 + oweRecv c 0 + oweBar c 2 + oweBar c 1 + oweBar c 0

def L (g : GSem nD τ sig) : Finset Unit := if g.1.2 = .tc then {()} else ∅
def level : Role → ℕ
  | .bar => 1
  | .recv _ => 2
  | _ => 0
/-- Barrier cells at 1, receive cells at 2, the rest at 0. -/
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]; rfl
theorem lv_recv (c k : Dev nD) (u : Unit) : lv (recvCell c k) u = 2 := by dsimp only [lv]; rw [role_recv]; rfl

theorem tallyAt_pos {g g' : GSem nD τ sig} {u : Unit} {n : ℕ} (h : 0 < (tallyAt g () n : CellTallies nD τ sig Unit) g' u) : g' = g := by
  rw [tallyAt_apply] at h
  by_contra hne
  rw [if_neg fun e => hne e.1] at h
  exact absurd h (Nat.lt_irrefl 0)

/-- What is owed while the barrier is waited for is owed to receive cells. -/
theorem owed_recv (c : Dev nD) {g : GSem nD τ sig} {u : Unit} (h : 0 < (oweRecv c 2 + oweRecv c 1 + oweRecv c 0) g u) :
    ∃ j, g = recvCell (pr c j) c := by
  rcases Nat.add_pos_iff_pos_or_pos.mp (show 0 < (oweRecv c 2 g u + oweRecv c 1 g u) + oweRecv c 0 g u from h) with h | h
  rcases Nat.add_pos_iff_pos_or_pos.mp h with h | h
  · exact ⟨2, tallyAt_pos h⟩
  · exact ⟨1, tallyAt_pos h⟩
  · exact ⟨0, tallyAt_pos h⟩

theorem mayWait_bar (c : Dev nD) :
    (levAts L lv : sProp 𝕄) ⊢ MayWait (c : Thread nD τ) (.reg barS) () (oweRecv c 2 + oweRecv c 1 + oweRecv c 0) :=
  MayOwe.of_cut (L := L) (lev := lv) 1 (fun p hp => by rw [Finset.mem_singleton.mp hp, L_tc]; exact Finset.mem_singleton_self _)
    (fun g u hg => by obtain ⟨j, rfl⟩ := owed_recv c hg; rw [L_tc]; exact Finset.mem_singleton_self _)
    (fun p hp => by rw [Finset.mem_singleton.mp hp]; exact (lv_bar c ()).le)
    (fun g u hg => by obtain ⟨j, rfl⟩ := owed_recv c hg; rw [lv_recv]; decide)

/-- A cell whose round is over is closed: its counter back in hand at zero. -/
theorem close (κ : ℕ) (g : GSem nD τ sig) :
    iprop(cellInv ER (rd G) κ g ∗ atPos ER g (0 + 1) ∅ 0) ⊢ (|={Set.univ}=> semVal g 0 : sProp 𝕄) :=
  Rounds.cell_close ER (rd G) (Set.mem_univ κ) id (duties_later G g)
/-- A device's receive cell for itself, which nobody pays, is closed as it was opened. -/
theorem close_self (κ : ℕ) (c : Dev nD) :
    iprop(cellInv ER (rd G) κ (recvCell c c) ∗ atPos ER (recvCell c c) 0 ∅ 0) ⊢ (|={Set.univ}=> semVal (recvCell c c) 0 : sProp 𝕄) :=
  Rounds.cell_close ER (rd G) (Set.mem_univ κ) id (fun r _ => duties_self G c r)

end Cert.KernelIdeal.Moe

end
-- ==== Proof.Steps.lean ====
/-
  The kernel's values, and one lemma for each kind of step it takes in the exchange: a signal, a transfer, the wait for a
  peer's slot, the wait for an own transfer.
-/
module

public import proofs.«01_k».proof.Proof.Proto
public import proofs.«01_k».proof.Proof.Gen.KernelIdeal.Skeleton
public import Idealize.ShloMosaic.Lib.Pipeline.ValueKit.Geometry

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The program's addresses by the peer's number -/

theorem dev1 (c : Dev nD) : (⟨k0_dev1 c, k0_dev1_lt c⟩ : Dev nD) = pr c 0 := Fin.ext (k0_dev1_eq c)
theorem dev2 (c : Dev nD) : (⟨k0_dev2 c, k0_dev2_lt c⟩ : Dev nD) = pr c 1 := Fin.ext (k0_dev2_eq c)
theorem dev3 (c : Dev nD) : (⟨k0_dev3 c, k0_dev3_lt c⟩ : Dev nD) = pr c 2 := Fin.ext (k0_dev3_eq c)
theorem dev4 (c : Dev nD) : (⟨k0_dev4 c, k0_dev4_lt c⟩ : Dev nD) = pr c 0 := Fin.ext (k0_dev4_eq c)
theorem dev5 (c : Dev nD) : (⟨k0_dev5 c, k0_dev5_lt c⟩ : Dev nD) = pr c 1 := Fin.ext (k0_dev5_eq c)
theorem dev6 (c : Dev nD) : (⟨k0_dev6 c, k0_dev6_lt c⟩ : Dev nD) = pr c 2 := Fin.ext (k0_dev6_eq c)

theorem sem_send0 : ((cc0_scratch1.slice (Rect.unit (s := S3) ![0] ![1] inb_S3_S1_0)).squeeze S_ squeezes_S1_S_).sem = sendS 0 := by decide
theorem sem_send1 : ((cc0_scratch1.slice (Rect.unit (s := S3) ![1] ![1] inb_S3_S1_1)).squeeze S_ squeezes_S1_S_).sem = sendS 1 := by decide
theorem sem_send2 : ((cc0_scratch1.slice (Rect.unit (s := S3) ![2] ![1] inb_S3_S1_2)).squeeze S_ squeezes_S1_S_).sem = sendS 2 := by decide

/-- The receive semaphore at offset `k` is number `k`'s. -/
theorem sem_recv (off : Fin 1 → ℕ) (h : ∀ a, off a + (![1] : Fin 1 → ℕ) a ≤ S4.size a) (k : Dev nD) (e : off = ![k.val]) :
    ((cc0_scratch2.slice (Rect.unit (s := S4) off ![1] h)).squeeze S_ squeezes_S1_S_).sem = recvS k := by
  subst e; revert k; decide

/-- The block at offset `![k, 0, 0]`, its unit axis dropped, is slot `k`. -/
theorem slotM_at (off : Fin 3 → ℕ) (h : ∀ a, off a + S1x112x512.size a ≤ S4x112x512.size a) (k : Dev nD) (e : off = ![k.val, 0, 0]) :
    ((Memref.whole cc0_scratch0 : Memref sig .tc .vmem S4x112x512 .bf16).slice (Rect.unit (s := S4x112x512) off S1x112x512.size h)
      (fun _ => rfl)).squeeze S112x512 squeezes_S1x112x512_S112x512 = slotM k := by
  subst e; rfl

theorem off4_1 (c : Dev nD) : k0_off4 c 1#32 = ![(pr c 0).val] := k0_off4_eq c 0
theorem off4_2 (c : Dev nD) : k0_off4 c 2#32 = ![(pr c 1).val] := k0_off4_eq c 1
theorem off4_3 (c : Dev nD) : k0_off4 c 3#32 = ![(pr c 2).val] := k0_off4_eq c 2
theorem off5_1 (c : Dev nD) : k0_off5 c 1#32 = ![(pr c 0).val, 0, 0] := k0_off5_eq c 0
theorem off5_2 (c : Dev nD) : k0_off5 c 2#32 = ![(pr c 1).val, 0, 0] := k0_off5_eq c 1
theorem off5_3 (c : Dev nD) : k0_off5 c 3#32 = ![(pr c 2).val, 0, 0] := k0_off5_eq c 2
theorem own_off1 (c : Dev nD) : k0_off1 c = ![c.val, 0, 0] := k0_off1_eq c

/-! ## What the kernel computes -/

/-- The weights of one of a device's two experts. -/
def expertW0 (w : Vec F S2x256x512 .bf16) : Vec F S1x256x512 .bf16 :=
  (Memref.whole cc0_stg3_0 : Memref sig .tc .vmem S2x256x512 .bf16).view.readAt (Elt F)
    (Rect.unit (s := S2x256x512) ![0, 0, 0] ![1, 256, 512] inb_S2x256x512_S1x256x512_0_0_0).toLoadRect w
def expertW1 (w : Vec F S2x256x512 .bf16) : Vec F S1x256x512 .bf16 :=
  (Memref.whole cc0_stg3_0 : Memref sig .tc .vmem S2x256x512 .bf16).view.readAt (Elt F)
    (Rect.unit (s := S2x256x512) ![1, 0, 0] ![1, 256, 512] inb_S2x256x512_S1x256x512_1_0_0).toLoadRect w

/-- What device `c` puts in its slot: its two experts' outputs on the tokens routed to them. -/
def slotVal (c : Dev nD) (x : Vec F S512x256 .bf16) (row : Vec F S1x512 .i32) (w : Vec F S2x256x512 .bf16) : Vec F S1x112x512 .bf16 :=
  k0_pay7 (k0_pay4 (Scalar.remsi (Scalar.divsi c.word 1#32) 4#32) (k0_pay1 row) (k0_pay2 row) x (expertW0 w))
    (k0_pay5 (Scalar.remsi (Scalar.divsi c.word 1#32) 4#32) (k0_pay1 row) (k0_pay2 row) x (expertW1 w))
    (iota Kind.tc S112x512 32 [0] iota_S112x512_d0_w32) k0_pay6 102#32

/-- What a device returns, from the gathered slots. -/
def outVal (col : Vec F S512x1 .i32) (G : Vec F S4x112x512 .bf16) : Vec F S512x512 .bf16 :=
  k0_pay15
    (k0_pay14 (k0_pay8 col)
      (k0_pay9 (iota Kind.tc S512x512 32 [0] iota_S512x512_d0_w32) (iota Kind.tc S512x512 32 [1] iota_S512x512_d1_w32) col)
      (k0_pay10 (iota Kind.tc S512x512 32 [0] iota_S512x512_d0_w32) (iota Kind.tc S512x512 32 [1] iota_S512x512_d1_w32) col)
      (k0_pay11 col) (k0_pay12 col) (k0_pay13 col) 0#32)
    G

/-! ## The own slot's store, and a slot's landing on a peer -/

/-- The place within a slot: the leading coordinate dropped to zero. -/
def inSlot (i : S4x112x512.Idx) : S1x112x512.Idx := fun a => match a with
  | 0 => ⟨0, Nat.one_pos⟩
  | 1 => ⟨(i 1).val, (i 1).isLt⟩
  | 2 => ⟨(i 2).val, (i 2).isLt⟩

theorem zero3 : (![0, 0, 0] : Fin 3 → ℕ) = fun _ => 0 := by decide
theorem zero2 : (![0, 0] : Fin 2 → ℕ) = fun _ => 0 := by decide

theorem own_rect_set (off : Fin 3 → ℕ) (h : ∀ a, off a + (![1, 112, 512] : Fin 3 → ℕ) a ≤ S4x112x512.size a) (c : Dev nD) (e : off = ![c.val, 0, 0]) :
    (Rect.unit (s := S4x112x512) off ![1, 112, 512] h).set = slotSet c := by
  subst e; ext i; exact mem_slotRect c i

/-- Within slot `k` a place is where the block's own index puts it. -/
theorem inSlot_emb (k : Dev nD) (x : S1x112x512.Idx) :
    inSlot ((Rect.unit (s := S4x112x512) ![k.val, 0, 0] ![1, 112, 512] (slot_inb k)).emb x) = x := by
  funext a
  refine Fin.ext ?_
  match a with
  | 0 => have h0 : (x 0).val < 1 := (x 0).isLt; show 0 = (x 0).val; omega
  | 1 => show 0 + 1 * (x 1).val = (x 1).val; omega
  | 2 => show 0 + 1 * (x 2).val = (x 2).val; omega

/-- What a store of the block at slot `k` leaves at a place of the slot. -/
theorem write_slot (k : Dev nD) (f : Vec F S4x112x512 .bf16) (v : Vec F S1x112x512 .bf16) (x : S1x112x512.Idx) :
    ((Memref.whole cc0_scratch0 : Memref sig .tc .vmem S4x112x512 .bf16).access (Rect.unit (s := S4x112x512) ![k.val, 0, 0] ![1, 112, 512] (slot_inb k))).write
      (Elt F) f v Finset.univ ((Rect.unit (s := S4x112x512) ![k.val, 0, 0] ![1, 112, 512] (slot_inb k)).emb x) = v x :=
  View.write_emb_of_mem (v := (Memref.whole cc0_scratch0 : Memref sig .tc .vmem S4x112x512 .bf16).access
    (Rect.unit (s := S4x112x512) ![k.val, 0, 0] ![1, 112, 512] (slot_inb k))) f v (Finset.mem_univ x)

/-- A slot stored at `v` holds what `G` has there, when `v` does. -/
theorem stored_slot {G : Vec F S4x112x512 .bf16} {v : Vec F S1x112x512 .bf16} {c : Dev nD} (hG : ∀ i ∈ slotSet c, G i = v (inSlot i))
    (off : Fin 3 → ℕ) (h : ∀ a, off a + (![1, 112, 512] : Fin 3 → ℕ) a ≤ S4x112x512.size a) (e : off = ![c.val, 0, 0]) (f : Vec F S4x112x512 .bf16) :
    (((c : Thread nD τ).loc cc0_scratch0) ↦[slotSet c]{fullShare}
        (((Memref.whole cc0_scratch0 : Memref sig .tc .vmem S4x112x512 .bf16).access (Rect.unit (s := S4x112x512) off ![1, 112, 512] h)).write
          (Elt F) f v Finset.univ) : sProp 𝕄) = slotPt c c fullShare G := by
  refine pointsTo_congr fun i hi => ?_
  subst e
  have hm := (mem_slotRect c i).mpr hi
  rw [← Rect.map_emb_univ] at hm
  obtain ⟨x, -, hx⟩ := Finset.mem_map.mp hm
  have h1 := hG i hi
  rw [← hx] at h1 ⊢
  rw [h1]
  exact (write_slot c f v x).trans (congrArg v (inSlot_emb c x).symm)

/-- A slot copied onto a peer's holds there what `G` has, when the source did. -/
theorem landed_slot (G : Vec F S4x112x512 .bf16) (p c : Dev nD) (f : Vec F S4x112x512 .bf16) :
    (((slotM c).view.loc (p : Thread nD τ)) ↦[(slotM c).view.set]{fullShare}
        ((slotM c).view.write (Elt F) f ((slotM c).view.read (Elt F) G) Finset.univ) : sProp 𝕄) = slotPt p c fullShare G := by
  refine (pointsTo_congr (g := G) fun i hi => ?_).trans (by rw [slotM_set])
  exact (congrFun (View.write_read_eq_piecewise (v := (slotM c).view) f G Finset.univ) i).trans (Finset.piecewise_eq_of_mem _ _ _ hi)

/-! ## The records -/

abbrev 𝒱₀ : Variants := Variants.none

/-- A device's own semaphores: its three send ones, then its four receive ones. -/
def osem (k : Fin 7) : SemLoc sig := .dma ⟨5 + k.val, by have := k.isLt; show 5 + k.val < 12; omega⟩
abbrev ownCell (c : Dev nD) (k : Fin 7) : GSem nD τ sig := ((c : Thread nD τ), osem k)
theorem own_send (c : Dev nD) (j : Fin 3) : ownCell c (Fin.castAdd 4 j) = sendCell c j := rfl
theorem own_recv (c k : Dev nD) : ownCell c (Fin.natAdd 3 k) = recvCell c k :=
  congrArg (fun s => (((c : Thread nD τ), SemLoc.dma s) : GSem nD τ sig)) (Fin.ext (by show 5 + (3 + k.val) = 8 + k.val; omega))

variable (G : Vec F S4x112x512 .bf16)

/-- Every cell's invariant, and that the barrier's round has begun everywhere. -/
def records (κ : GSem nD τ sig → ℕ) : sProp 𝕄 :=
  iprop((bigSep Finset.univ fun p : Dev nD => iprop(cellInv ER (rd G) (κ (barCell p)) (barCell p) ∗ reached ER (barCell p) 0))
    ∗ bigSep Finset.univ fun p : Dev nD => bigSep Finset.univ fun k : Fin 7 => cellInv ER (rd G) (κ (ownCell p k)) (ownCell p k))

instance records_persistent (κ : GSem nD τ sig → ℕ) : BI.Persistent (records G κ) := by unfold records; infer_instance

variable (κ : GSem nD τ sig → ℕ)

theorem records_bar (p : Dev nD) : records G κ ⊢ iprop(cellInv ER (rd G) (κ (barCell p)) (barCell p) ∗ reached ER (barCell p) 0) :=
  sep_elim_left.trans (bigSep_elim (Finset.mem_univ p))
theorem records_own (p : Dev nD) (k : Fin 7) : records G κ ⊢ cellInv ER (rd G) (κ (ownCell p k)) (ownCell p k) :=
  sep_elim_right.trans ((bigSep_elim (Finset.mem_univ p)).trans (bigSep_elim (Finset.mem_univ k)))
theorem records_send (p : Dev nD) (j : Fin 3) : records G κ ⊢ cellInv ER (rd G) (κ (sendCell p j)) (sendCell p j) :=
  records_own G κ p (Fin.castAdd 4 j)
theorem records_recv (p k : Dev nD) : records G κ ⊢ cellInv ER (rd G) (κ (recvCell p k)) (recvCell p k) := by
  have h := records_own G κ p (Fin.natAdd 3 k)
  rwa [own_recv] at h

/-! ## The steps -/

/-- SIGNAL peer `j`: it pays its unit with the own slot of that peer's and the right to pay the cell that slot's transfer raises. -/
theorem signal_step (c : Dev nD) (j : Fin 3) (p : Dev nD) (hp : p = pr c j) (O : CellTallies nD τ sig Unit) (W : Waits sig Unit)
    {α : Type} {k : PUnit → Prog (TpuEff nD τ sig (Elt F) Λ₀ .tc) α} {Q : α → sProp 𝕄} :
    iprop(records G κ ∗ owes (c : Thread nD τ) (O + oweBar c j) W ∗ dutyTok ER (barCell (pr c j)) 0 c
        ∗ (∃ f, slotPt c (pr c j) fullShare f) ∗ reached ER (recvCell c (pr c j)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal (p : Thread nD τ) barS 1) k) Q) := by
  subst hp
  iintro ⟨#HR, HO, Ht, Hs, #Hr⟩ Hk
  ihave #HB := (records_bar G κ (pr c j)) $$ HR
  icases HB with ⟨#HI, #HrB⟩
  iapply (Rounds.wp_signal 𝒱₀ ER (rd G) (c : Thread nD τ) none (dst := (pr c j : Thread nD τ)) (sem := barS) (r := 0) (d := c) (κ := κ (barCell (pr c j)))
      (by rw [duties_bar]; exact Finset.mem_erase.mpr ⟨(pr_ne c j).symm, Finset.mem_univ _⟩) (amount_bar G (pr c j) c) () O rfl)
    $$ [HO Ht Hs]
  · isplitr; · iexact HI
    isplitl [HO]; · iexact HO
    isplitl [Ht]; · iexact Ht
    isplitl [Hs]
    · rw [payload_bar]; unfold barPay
      isplitl [Hs]; · iexact Hs
      iexact Hr
    iexact HrB
  iexact Hk

/-- TRANSFER the own slot to peer `j`: a share of the own slot pays the own cell, the peer's slot at `G` pays the peer's. -/
theorem send_step (c : Dev nD) (j : Fin 3) (p : Dev nD) (hp : p = pr c j) (O : CellTallies nD τ sig Unit) (W : Waits sig Unit)
    {hsrc : (slotM c).view.WordExact} {hdst : (slotM c).view.WordExact} {hsc : (slotM c).view.ref.isScScratch = false}
    {hsem : DmaTarget.Typed .vmem (SemLoc.dma (recvS c)) (.remote (p : Thread nD τ) (slotM c) (SemLoc.dma (sendS j)) hsc)}
    {α : Type} {k : PUnit → Prog (TpuEff nD τ sig (Elt F) Λ₀ .tc) α} {Q : α → sProp 𝕄} :
    iprop(records G κ ∗ owes (c : Thread nD τ) (O + oweRecv c j) W ∗ slotPt c c (sendShare j) G ∗ barPay c (pr c j)
        ∗ dutyTok ER (sendCell c j) 0 c ∗ reached ER (sendCell c j) 0 ∗ dutyTok ER (recvCell (pr c j) c) 0 c)
      ⊢ iprop(((cred (tallyAt (sendCell c j) () N) ∗ owes (c : Thread nD τ) O W)
            -∗ wp frame (wpE (defs₀ (F := F)) 𝒱₀ c none) Set.univ (k ⟨⟩) Q)
          -∗ wp frame (wpE (defs₀ (F := F)) 𝒱₀ c none) Set.univ
              (.op (.enqueueDma (slotM c) (.remote (p : Thread nD τ) (slotM c) (SemLoc.dma (sendS j)) hsc) (SemLoc.dma (recvS c)) hsrc hdst hsem) k) Q) := by
  subst hp
  unfold barPay
  iintro ⟨#HR, HO, Hs, ⟨⟨%f, Hd⟩, #HrV⟩, HtS, #HrS, HtV⟩ Hk
  ihave #HIS := (records_send G κ c j) $$ HR
  ihave #HIV := (records_recv G κ (pr c j) c) $$ HR
  iapply (Rounds.wp_send_pointsTo 𝒱₀ ER (rd G) (c : Thread nD τ) none (c' := (pr c j : Thread nD τ)) (src := slotM c) (dst := slotM c)
      (sS := .dma (sendS j)) (sem := .dma (recvS c)) (q := sendShare j) (fs := G) (fd := f) (κ₁ := κ (sendCell c j)) (κ₂ := κ (recvCell (pr c j) c))
      (r₁ := 0) (r₂ := 0) (d₁ := c) (d₂ := c)
      (by rw [duties_send]; exact Finset.mem_singleton_self _) (by rw [duties_recv G _ (pr_ne c j).symm]; exact Finset.mem_singleton_self _)
      () () N rfl (amount_send G c j c) (amount_recv G (pr c j) c c) O rfl (W := W)
      (by rw [payload_send, slotM_set])
      (by rw [payload_recv, landed_slot])) $$ [HO Hs Hd HtS HtV]
  · isplitr; · iexact HIS
    isplitr; · iexact HIV
    isplitl [Hs]; · rw [slotM_set]; iexact Hs
    isplitl [Hd]; · rw [slotM_set]; iexact Hd
    isplitl [HO]; · iexact HO
    isplitl [HtS]; · iexact HtS
    isplitr; · iexact HrS
    isplitl [HtV]; · iexact HtV
    iexact HrV
  iexact Hk

/-- WAIT for the peers' signals, owing only transfers: their slots for this device come, each with the right to pay its cell. -/
theorem bar_step (c : Dev nD) (W : Waits sig Unit) {α : Type} {k : PUnit → Prog (TpuEff nD τ sig (Elt F) Λ₀ .tc) α} {Q : α → sProp 𝕄} :
    iprop(records G κ ∗ cred (tallyAt (barCell c) () 3) ∗ owes (c : Thread nD τ) (oweRecv c 2 + oweRecv c 1 + oweRecv c 0) W
        ∗ levAts L lv ∗ atPos ER (barCell c) 0 ∅ 0)
      ⊢ iprop(((owes (c : Thread nD τ) (oweRecv c 2 + oweRecv c 1 + oweRecv c 0) (insert (SemLoc.reg barS, ()) W) ∗ atPos ER (barCell c) (0 + 1) ∅ 0
              ∗ barPay c (pr c 0) ∗ barPay c (pr c 1) ∗ barPay c (pr c 2))
            -∗ wp frame (wpE (defs₀ (F := F)) 𝒱₀ c none) Set.univ (k ⟨⟩) Q)
          -∗ wp frame (wpE (defs₀ (F := F)) 𝒱₀ c none) Set.univ (.op (.semWait barS 3) k) Q) := by
  iintro ⟨#HR, Hc, HO, #Hlev, Hat⟩ Hk
  ihave #HB := (records_bar G κ c) $$ HR
  icases HB with ⟨#HI, -⟩
  iapply (Rounds.wp_wait_rest_token 𝒱₀ ER (rd G) (c : Thread nD τ) none (κ := κ (barCell c))
      (wpE_semWait_eq 𝒱₀ (c : Thread nD τ) none Set.univ) (Set.mem_univ _) () (O := oweRecv c 2 + oweRecv c 1 + oweRecv c 0) (W := W) (R := 0) (m := 0) (T := ∅)
      ((Nat.zero_add _).trans (expect_bar G c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  iapply Hk
  isplitl [HO]; · iexact HO
  isplitl [Hat]; · iexact Hat
  iapply (Entails.of_eq (rest_bar G c)) $$ Hp

/-- WAIT for peer `k`'s slot, owing nothing: it comes at `G`. -/
theorem recv_step (c k : Dev nD) (hk : k ≠ c) (W : Waits sig Unit)
    {α : Type} {kt : PUnit → Prog (TpuEff nD τ sig (Elt F) Λ₀ .tc) α} {Q : α → sProp 𝕄} {h} :
    iprop(records G κ ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ atPos ER (recvCell c k) (0 + 1) ∅ 0 ∗ slotPt c k fullShare G)
            -∗ wp frame (wpE (defs₀ (F := F)) 𝒱₀ c none) Set.univ (kt ⟨⟩) Q)
          -∗ wp frame (wpE (defs₀ (F := F)) 𝒱₀ c none) Set.univ (.op (.waitDma (recvS k) (slotM k).view.ref S112x512 .bf16 h) kt) Q) := by
  iintro ⟨#HR, Hc, HO, Hat⟩ Hk
  ihave #HI := (records_recv G κ c k) $$ HR
  iapply (Rounds.wp_wait_rest_token 𝒱₀ ER (rd G) (c : Thread nD τ) none (κ := κ (recvCell c k))
      (wpE_waitDma_eq 𝒱₀ (c : Thread nD τ) none Set.univ) (Set.mem_univ _) () (O := 0) (W := W) (R := 0) (m := 0) (T := ∅)
      ((Nat.zero_add _).trans (expect_recv G c hk).symm)) $$ [Hc HO Hat]
  · isplitr; · iexact HI
    isplitl [Hc]; · iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iapply (Entails.of_eq (rest_recv G c hk)) $$ Hp

/-- WAIT for the own transfer `j`, owing nothing: its share of the own slot comes back. -/
theorem sent_step (c : Dev nD) (j : Fin 3) (W : Waits sig Unit)
    {α : Type} {kt : PUnit → Prog (TpuEff nD τ sig (Elt F) Λ₀ .tc) α} {Q : α → sProp 𝕄} {h} :
    iprop(records G κ ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) (0 + 1) ∅ 0 ∗ slotPt c c (sendShare j) G)
            -∗ wp frame (wpE (defs₀ (F := F)) 𝒱₀ c none) Set.univ (kt ⟨⟩) Q)
          -∗ wp frame (wpE (defs₀ (F := F)) 𝒱₀ c none) Set.univ (.op (.waitDma (sendS j) (slotM c).view.ref S112x512 .bf16 h) kt) Q) := by
  iintro ⟨#HR, Hc, HO, Hat⟩ Hk
  ihave #HI := (records_send G κ c j) $$ HR
  iapply (Rounds.wp_wait_rest_token 𝒱₀ ER (rd G) (c : Thread nD τ) none (κ := κ (sendCell c j))
      (wpE_waitDma_eq 𝒱₀ (c : Thread nD τ) none Set.univ) (Set.mem_univ _) () (O := 0) (W := W) (R := 0) (m := 0) (T := ∅)
      ((Nat.zero_add _).trans (expect_send G c j).symm)) $$ [Hc HO Hat]
  · isplitr; · iexact HI
    isplitl [Hc]; · iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iapply (Entails.of_eq (rest_send G c j)) $$ Hp

end Cert.KernelIdeal.Moe

end
-- ==== Proof.Body.lean ====
/-
  The kernel's body, run once at a symbolic device: from the opened exchange, the staged arrays and the gathered buffer at
  any contents, to the exchange closed and the result staged.
-/
module

public import proofs.«01_k».proof.Proof.Steps

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A buffer of device `c`, whole. -/
abbrev at_ (c : Dev nD) (b : Ref sig .tc) (f : b.ty.Contents (Elt F)) : sProp 𝕄 := ((c : Thread nD τ).loc b) ↦{fullShare} f

variable (G : Vec F S4x112x512 .bf16) (κ : GSem nD τ sig → ℕ)

/-- What device `c` holds towards one peer: the tokens of the three duties it pays there, the credit of the peer's slot, and
    its positions on the send and the receive cell it has for that peer, both begun. -/
def link (c : Dev nD) (j : Fin 3) : sProp 𝕄 :=
  iprop((dutyTok ER (barCell (pr c j)) 0 c ∗ dutyTok ER (recvCell (pr c j) c) 0 c ∗ dutyTok ER (sendCell c j) 0 c)
    ∗ cred (tallyAt (recvCell c (pr c j)) () N)
    ∗ (atPos ER (sendCell c j) 0 ∅ 0 ∗ reached ER (sendCell c j) 0)
    ∗ atPos ER (recvCell c (pr c j)) 0 ∅ 0 ∗ reached ER (recvCell c (pr c j)) 0)

/-- The exchange, opened, on device `c`. -/
def opened (c : Dev nD) : sProp 𝕄 :=
  iprop(records G κ ∗ levAts L lv ∗ atPos ER (barCell c) 0 ∅ 0 ∗ cred (tallyAt (barCell c) () 3) ∗ atPos ER (recvCell c c) 0 ∅ 0
    ∗ link c 0 ∗ link c 1 ∗ link c 2)

/-- The exchange, closed: every counter of the device at zero. -/
def closed (c : Dev nD) : sProp 𝕄 :=
  iprop(semVal (barCell c) 0 ∗ (semVal (sendCell c 0) 0 ∗ semVal (sendCell c 1) 0 ∗ semVal (sendCell c 2) 0)
    ∗ semVal (recvCell c c) 0 ∗ semVal (recvCell c (pr c 0)) 0 ∗ semVal (recvCell c (pr c 1)) 0 ∗ semVal (recvCell c (pr c 2)) 0)

/-- The staged inputs of device `c`. -/
def staged (c : Dev nD) (x : Vec F S512x256 .bf16) (col : Vec F S512x1 .i32) (row : Vec F S1x512 .i32) (w : Vec F S2x256x512 .bf16) : sProp 𝕄 :=
  iprop(at_ c cc0_stg0_0 x ∗ at_ c cc0_stg1_0 col ∗ at_ c cc0_stg2_0 row ∗ at_ c cc0_stg3_0 w)

section Loaded

/-- What a load of a whole staged array gives. -/
theorem load_x (x : Vec F S512x256 .bf16) : (Memref.whole cc0_stg0_0 : Memref sig .tc .vmem S512x256 .bf16).view.readAt (Elt F)
    (Rect.unit (s := S512x256) ![0, 0] ![512, 256] inb_S512x256_S512x256_0_0).toLoadRect x = x := Memref.readAt_unit_zero (Elt F) cc0_stg0_0 zero2 _ x
theorem load_col (x : Vec F S512x1 .i32) : (Memref.whole cc0_stg1_0 : Memref sig .tc .vmem S512x1 .i32).view.readAt (Elt F)
    (Rect.unit (s := S512x1) ![0, 0] ![512, 1] inb_S512x1_S512x1_0_0).toLoadRect x = x := Memref.readAt_unit_zero (Elt F) cc0_stg1_0 zero2 _ x
theorem load_row (x : Vec F S1x512 .i32) : (Memref.whole cc0_stg2_0 : Memref sig .tc .vmem S1x512 .i32).view.readAt (Elt F)
    (Rect.unit (s := S1x512) ![0, 0] ![1, 512] inb_S1x512_S1x512_0_0).toLoadRect x = x := Memref.readAt_unit_zero (Elt F) cc0_stg2_0 zero2 _ x
theorem load_gathered (x : Vec F S4x112x512 .bf16) : (Memref.whole cc0_scratch0 : Memref sig .tc .vmem S4x112x512 .bf16).view.readAt (Elt F)
    (Rect.unit (s := S4x112x512) ![0, 0, 0] ![4, 112, 512] inb_S4x112x512_S4x112x512_0_0_0).toLoadRect x = x :=
  Memref.readAt_unit_zero (Elt F) cc0_scratch0 zero3 _ x

/-- What is stored in the own slot, of the arrays as loaded. -/
theorem slotVal_loaded (c : Dev nD) (x : Vec F S512x256 .bf16) (row : Vec F S1x512 .i32) (w : Vec F S2x256x512 .bf16) :
    slotVal c x row w = slotVal c
      ((Memref.whole cc0_stg0_0 : Memref sig .tc .vmem S512x256 .bf16).view.readAt (Elt F)
        (Rect.unit (s := S512x256) ![0, 0] ![512, 256] inb_S512x256_S512x256_0_0).toLoadRect x)
      ((Memref.whole cc0_stg2_0 : Memref sig .tc .vmem S1x512 .i32).view.readAt (Elt F)
        (Rect.unit (s := S1x512) ![0, 0] ![1, 512] inb_S1x512_S1x512_0_0).toLoadRect row) w := by
  rw [load_x, load_row]

/-- The result's store, of the arrays as loaded, stages the result. -/
theorem out_stored (c : Dev nD) (f : Vec F S512x512 .bf16) (col : Vec F S512x1 .i32) (G : Vec F S4x112x512 .bf16) :
    (at_ c cc0_stg4_0 (((Memref.whole cc0_stg4_0 : Memref sig .tc .vmem S512x512 .bf16).access
        (Rect.unit (s := S512x512) ![0, 0] ![512, 512] inb_S512x512_S512x512_0_0)).write (Elt F) f
        (outVal ((Memref.whole cc0_stg1_0 : Memref sig .tc .vmem S512x1 .i32).view.readAt (Elt F)
            (Rect.unit (s := S512x1) ![0, 0] ![512, 1] inb_S512x1_S512x1_0_0).toLoadRect col)
          ((Memref.whole cc0_scratch0 : Memref sig .tc .vmem S4x112x512 .bf16).view.readAt (Elt F)
            (Rect.unit (s := S4x112x512) ![0, 0, 0] ![4, 112, 512] inb_S4x112x512_S4x112x512_0_0_0).toLoadRect G)) Finset.univ) : sProp 𝕄)
      = at_ c cc0_stg4_0 (outVal col G) := by
  rw [load_col, load_gathered]
  exact congrArg (at_ c cc0_stg4_0) (Memref.write_access_unit_zero_univ (Elt F) cc0_stg4_0 zero2 _ f (outVal col G))

end Loaded

theorem close_send (c : Dev nD) (j : Fin 3) :
    iprop(records G κ ∗ atPos ER (sendCell c j) (0 + 1) ∅ 0) ⊢ (|={Set.univ}=> semVal (sendCell c j) 0 : sProp 𝕄) :=
  (sep_mono_left (records_send G κ c j)).trans (close G _ _)
theorem close_recv (c k : Dev nD) :
    iprop(records G κ ∗ atPos ER (recvCell c k) (0 + 1) ∅ 0) ⊢ (|={Set.univ}=> semVal (recvCell c k) 0 : sProp 𝕄) :=
  (sep_mono_left (records_recv G κ c k)).trans (close G _ _)
theorem close_none (c : Dev nD) :
    iprop(records G κ ∗ atPos ER (recvCell c c) 0 ∅ 0) ⊢ (|={Set.univ}=> semVal (recvCell c c) 0 : sProp 𝕄) :=
  (sep_mono_left (records_recv G κ c c)).trans (close_self G _ c)

/-- THE BODY on device `c`, for gathered contents `G` that have in slot `c` what the device computes: the result is staged, the
    inputs are as they were, and the exchange is closed. -/
theorem body_run (c : Dev nD) (x : Vec F S512x256 .bf16) (col : Vec F S512x1 .i32) (row : Vec F S1x512 .i32) (w : Vec F S2x256x512 .bf16)
    (hG : ∀ i ∈ slotSet c, G i = slotVal c x row w (inSlot i)) (W : Waits sig Unit) (Q : PUnit → sProp 𝕄) :
    iprop((opened G κ c ∗ staged c x col row w ∗ (∃ f, at_ c cc0_stg4_0 f) ∗ (∃ f, at_ c cc0_scratch0 f) ∗ owes (c : Thread nD τ) (O₀ c) W)
        ∗ ((closed c ∗ staged c x col row w ∗ at_ c cc0_stg4_0 (outVal col G) ∗ (∃ f, at_ c cc0_scratch0 f)
              ∗ ∃ W', owes (c : Thread nD τ) (0 : CellTallies nD τ sig Unit) W') -∗ Q ⟨⟩))
      ⊢ wp frame (wpE (defs₀ (F := F)) 𝒱₀ c none) Set.univ
          (cc0_body (F := F) (Memref.whole cc0_stg0_0) (hstage0_0 0) (Memref.whole cc0_stg1_0) (hstage0_1 0)
            (Memref.whole cc0_stg2_0) (hstage0_2 0) (Memref.whole cc0_stg3_0) (hstage0_3 0) (Memref.whole cc0_stg4_0) (hstage0_4 0)
            (Memref.whole cc0_scratch0) (Memref.isWhole_whole _) cc0_scratch1 cc0_scratch2) Q := by
  simp only [cc0_body_eq_skeleton]
  unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  simp only [slotM_at _ _ c (k0_off3_eq c), slotM_at _ _ (pr c 0) (off5_1 c), slotM_at _ _ (pr c 1) (off5_2 c), slotM_at _ _ (pr c 2) (off5_3 c)]
  simp only [sem_send0, sem_send1, sem_send2, sem_recv _ _ c (k0_off2_eq c), sem_recv _ _ (pr c 0) (off4_1 c), sem_recv _ _ (pr c 1) (off4_2 c),
    sem_recv _ _ (pr c 2) (off4_3 c)]
  unfold opened staged link O₀
  iintro ⟨⟨⟨#HR, #Hlev, HaB, HcB, HaC, ⟨⟨HtB0, HtV0, HtS0⟩, HcV0, ⟨HaS0, #HrS0⟩, HaV0, #HrV0⟩, ⟨⟨HtB1, HtV1, HtS1⟩, HcV1, ⟨HaS1, #HrS1⟩, HaV1, #HrV1⟩,
    ⟨HtB2, HtV2, HtS2⟩, HcV2, ⟨HaS2, #HrS2⟩, HaV2, #HrV2⟩, ⟨Hx, Hcol, Hrow, Hw⟩, ⟨%fo, Hout⟩, ⟨%fs, Hscr⟩, HO⟩, Hk⟩
  ihave Hslots := (Entails.of_eq (slots_split c fullShare fs)) $$ Hscr
  icases Hslots with ⟨Hown, Hp0, Hp1, Hp2⟩
  -- the three signals
  iapply (signal_step G κ c 0 _ (dev1 c) (oweRecv c 2 + oweRecv c 1 + oweRecv c 0 + oweBar c 2 + oweBar c 1) W) $$ [HO HtB0 Hp0]
  · isplitr; · iexact HR
    isplitl [HO]; · iexact HO
    isplitl [HtB0]; · iexact HtB0
    isplitl [Hp0]; · iexists fs; iexact Hp0
    iexact HrV0
  iintro HO
  iapply (signal_step G κ c 1 _ (dev2 c) (oweRecv c 2 + oweRecv c 1 + oweRecv c 0 + oweBar c 2) W) $$ [HO HtB1 Hp1]
  · isplitr; · iexact HR
    isplitl [HO]; · iexact HO
    isplitl [HtB1]; · iexact HtB1
    isplitl [Hp1]; · iexists fs; iexact Hp1
    iexact HrV1
  iintro HO
  iapply (signal_step G κ c 2 _ (dev3 c) (oweRecv c 2 + oweRecv c 1 + oweRecv c 0) W) $$ [HO HtB2 Hp2]
  · isplitr; · iexact HR
    isplitl [HO]; · iexact HO
    isplitl [HtB2]; · iexact HtB2
    isplitl [Hp2]; · iexists fs; iexact Hp2
    iexact HrV2
  iintro HO
  -- the inputs, and the own slot stored
  iapply (wp_load 𝒱₀ (c : Thread nD τ) none Set.univ (m := Memref.whole cc0_stg2_0) (Finset.subset_univ _)) $$ Hrow
  iintro Hrow
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_stg3_0) (Finset.subset_univ _)) $$ Hw
  iintro Hw
  iapply (wp_load 𝒱₀ (c : Thread nD τ) none Set.univ (m := Memref.whole cc0_stg3_0) (Finset.subset_univ _)) $$ Hw
  iintro Hw
  have hown : (((Memref.whole cc0_scratch0 : Memref sig .tc .vmem S4x112x512 .bf16).access (Rect.unit (s := S4x112x512) (k0_off1 c) ![1, 112, 512] (k0_off1_inb c))).set)
      ⊆ slotSet c := ((View.set_slice_whole _ _).trans (own_rect_set _ _ c (own_off1 c))).subset
  iapply (wp_load_rect 𝒱₀ (c : Thread nD τ) none Set.univ (m := Memref.whole cc0_scratch0) hown) $$ Hown
  iintro Hown
  iapply (wp_store 𝒱₀ (c : Thread nD τ) none Set.univ (m := Memref.whole cc0_scratch0) hown) $$ Hown
  iintro Hown
  have hst := (stored_slot (F := F) (fun i hi => (hG i hi).trans (congrFun (slotVal_loaded c x row w) _)) _ (k0_off1_inb c) (own_off1 c) fs)
  unfold slotVal expertW0 expertW1 at hst
  ihave Hown := (Entails.of_eq hst) $$ Hown
  -- the barrier
  iapply (bar_step G κ c W) $$ [HcB HO HaB]
  · isplitr; · iexact HR
    isplitl [HcB]; · iexact HcB
    isplitl [HO]; · iexact HO
    isplitr; · iexact Hlev
    iexact HaB
  iintro ⟨HO, HaB, Hb0, Hb1, Hb2⟩
  -- the own slot shared out, and the three transfers
  ihave Hh := (slot_halves c c G).1 $$ Hown; icases Hh with ⟨Hkept, Hlent⟩
  ihave Hh := (lent_split c c G).1 $$ Hlent; icases Hh with ⟨Hl0, Hlent⟩
  ihave Hh := (lent_split' c c G).1 $$ Hlent; icases Hh with ⟨Hl1, Hl2⟩
  iapply (send_step G κ c 0 _ (dev4 c) (oweRecv c 2 + oweRecv c 1) _) $$ [HO Hl0 Hb0 HtS0 HtV0]
  · isplitr; · iexact HR
    isplitl [HO]; · iexact HO
    isplitl [Hl0]; · iexact Hl0
    isplitl [Hb0]; · iexact Hb0
    isplitl [HtS0]; · iexact HtS0
    isplitr; · iexact HrS0
    iexact HtV0
  iintro ⟨HcS0, HO⟩
  iapply (send_step G κ c 1 _ (dev5 c) (oweRecv c 2) _) $$ [HO Hl1 Hb1 HtS1 HtV1]
  · isplitr; · iexact HR
    isplitl [HO]; · iexact HO
    isplitl [Hl1]; · iexact Hl1
    isplitl [Hb1]; · iexact Hb1
    isplitl [HtS1]; · iexact HtS1
    isplitr; · iexact HrS1
    iexact HtV1
  iintro ⟨HcS1, HO⟩
  ihave HO := (Entails.of_eq (congrArg (fun O => (owes (c : Thread nD τ) O _ : sProp 𝕄)) (zero_add (oweRecv c 2)).symm)) $$ HO
  iapply (send_step G κ c 2 _ (dev6 c) 0 _) $$ [HO Hl2 Hb2 HtS2 HtV2]
  · isplitr; · iexact HR
    isplitl [HO]; · iexact HO
    isplitl [Hl2]; · iexact Hl2
    isplitl [Hb2]; · iexact Hb2
    isplitl [HtS2]; · iexact HtS2
    isplitr; · iexact HrS2
    iexact HtV2
  iintro ⟨HcS2, HO⟩
  iapply (wp_load 𝒱₀ (c : Thread nD τ) none Set.univ (m := Memref.whole cc0_stg1_0) (Finset.subset_univ _)) $$ Hcol
  iintro Hcol
  -- the peers' slots
  iapply (recv_step G κ c (pr c 0) (pr_ne c 0) _) $$ [HcV0 HO HaV0]
  · isplitr; · iexact HR
    isplitl [HcV0]; · iexact HcV0
    isplitl [HO]; · iexact HO
    iexact HaV0
  iintro ⟨HO, HaV0, Hp0⟩
  iapply (recv_step G κ c (pr c 1) (pr_ne c 1) _) $$ [HcV1 HO HaV1]
  · isplitr; · iexact HR
    isplitl [HcV1]; · iexact HcV1
    isplitl [HO]; · iexact HO
    iexact HaV1
  iintro ⟨HO, HaV1, Hp1⟩
  iapply (recv_step G κ c (pr c 2) (pr_ne c 2) _) $$ [HcV2 HO HaV2]
  · isplitr; · iexact HR
    isplitl [HcV2]; · iexact HcV2
    isplitl [HO]; · iexact HO
    iexact HaV2
  iintro ⟨HO, HaV2, Hp2⟩
  -- the gathered buffer read at the kept share, the transfers out of the own slot still in flight
  ihave Hh := (slot_halves c (pr c 0) G).1 $$ Hp0; icases Hh with ⟨Hk0, Hp0⟩
  ihave Hh := (slot_halves c (pr c 1) G).1 $$ Hp1; icases Hh with ⟨Hk1, Hp1⟩
  ihave Hh := (slot_halves c (pr c 2) G).1 $$ Hp2; icases Hh with ⟨Hk2, Hp2⟩
  ihave Hall := (Entails.of_eq (slots_split c keptShare G).symm) $$ [Hkept Hk0 Hk1 Hk2]
  · isplitl [Hkept]; · iexact Hkept
    isplitl [Hk0]; · iexact Hk0
    isplitl [Hk1] <;> iassumption
  iapply (wp_load 𝒱₀ (c : Thread nD τ) none Set.univ (m := Memref.whole cc0_scratch0) (Finset.subset_univ _)) $$ Hall
  iintro Hall
  iapply (wp_load_rect 𝒱₀ (c : Thread nD τ) none Set.univ (m := Memref.whole cc0_stg4_0)
    (r := Rect.unit (s := S512x512) ![0, 0] ![512, 512] inb_S512x512_S512x512_0_0) (Finset.subset_univ _)) $$ Hout
  iintro Hout
  iapply (wp_store 𝒱₀ (c : Thread nD τ) none Set.univ (m := Memref.whole cc0_stg4_0)
    (r := Rect.unit (s := S512x512) ![0, 0] ![512, 512] inb_S512x512_S512x512_0_0) (Finset.subset_univ _)) $$ Hout
  iintro Hout
  -- the own transfers done: their shares back
  iapply (sent_step G κ c 0 _) $$ [HcS0 HO HaS0]
  · isplitr; · iexact HR
    isplitl [HcS0]; · iexact HcS0
    isplitl [HO]; · iexact HO
    iexact HaS0
  iintro ⟨HO, HaS0, Hl0⟩
  iapply (sent_step G κ c 1 _) $$ [HcS1 HO HaS1]
  · isplitr; · iexact HR
    isplitl [HcS1]; · iexact HcS1
    isplitl [HO]; · iexact HO
    iexact HaS1
  iintro ⟨HO, HaS1, Hl1⟩
  iapply (sent_step G κ c 2 _) $$ [HcS2 HO HaS2]
  · isplitr; · iexact HR
    isplitl [HcS2]; · iexact HcS2
    isplitl [HO]; · iexact HO
    iexact HaS2
  iintro ⟨HO, HaS2, Hl2⟩
  ihave Hh := (Entails.of_eq (slots_split c keptShare G)) $$ Hall; icases Hh with ⟨Hkept, Hk0, Hk1, Hk2⟩
  ihave Hlent := (lent_split' c c G).2 $$ [Hl1 Hl2]
  · isplitl [Hl1] <;> iassumption
  ihave Hlent := (lent_split c c G).2 $$ [Hl0 Hlent]
  · isplitl [Hl0] <;> iassumption
  ihave Hown := (slot_halves c c G).2 $$ [Hkept Hlent]
  · isplitl [Hkept] <;> iassumption
  ihave Hp0 := (slot_halves c (pr c 0) G).2 $$ [Hk0 Hp0]
  · isplitl [Hk0] <;> iassumption
  ihave Hp1 := (slot_halves c (pr c 1) G).2 $$ [Hk1 Hp1]
  · isplitl [Hk1] <;> iassumption
  ihave Hp2 := (slot_halves c (pr c 2) G).2 $$ [Hk2 Hp2]
  · isplitl [Hk2] <;> iassumption
  ihave Hscr := (Entails.of_eq (slots_split c fullShare G).symm) $$ [Hown Hp0 Hp1 Hp2]
  · isplitl [Hown]; · iexact Hown
    isplitl [Hp0]; · iexact Hp0
    isplitl [Hp1] <;> iassumption
  -- every cell closed
  ihave #HIB := (records_bar G κ c) $$ HR
  icases HIB with ⟨#HIB, -⟩
  rw [wp_ret]
  imod (close G (κ (barCell c)) (barCell c)) $$ [HaB] with HaB
  · isplitr; · iexact HIB
    iexact HaB
  imod (close_send G κ c 0) $$ [HaS0] with HaS0
  · isplitr; · iexact HR
    iexact HaS0
  imod (close_send G κ c 1) $$ [HaS1] with HaS1
  · isplitr; · iexact HR
    iexact HaS1
  imod (close_send G κ c 2) $$ [HaS2] with HaS2
  · isplitr; · iexact HR
    iexact HaS2
  imod (close_recv G κ c (pr c 0)) $$ [HaV0] with HaV0
  · isplitr; · iexact HR
    iexact HaV0
  imod (close_recv G κ c (pr c 1)) $$ [HaV1] with HaV1
  · isplitr; · iexact HR
    iexact HaV1
  imod (close_recv G κ c (pr c 2)) $$ [HaV2] with HaV2
  · isplitr; · iexact HR
    iexact HaV2
  imod (close_none G κ c) $$ [HaC] with HaC
  · isplitr; · iexact HR
    iexact HaC
  imodintro
  iapply Hk
  unfold closed
  isplitl [HaB HaS0 HaS1 HaS2 HaC HaV0 HaV1 HaV2]
  · isplitl [HaB]; · iexact HaB
    isplitl [HaS0 HaS1 HaS2]
    · isplitl [HaS0]; · iexact HaS0
      isplitl [HaS1] <;> iassumption
    isplitl [HaC]; · iexact HaC
    isplitl [HaV0]; · iexact HaV0
    isplitl [HaV1] <;> iassumption
  isplitl [Hx Hcol Hrow Hw]
  · isplitl [Hx]; · iexact Hx
    isplitl [Hcol]; · iexact Hcol
    isplitl [Hrow] <;> iassumption
  isplitl [Hout]
  · have ho := out_stored c fo col G
    unfold outVal at ho ⊢
    iapply (Entails.of_eq ho) $$ Hout
  isplitl [Hscr]; · iexists G; iexact Hscr
  iexists _; iexact HO

end Cert.KernelIdeal.Moe

end
-- ==== Proof.Launch.lean ====
/-
  The launch: what the buffers hold before and after the kernel, the kernel as a region of @main, the exchange's ghost state
  dealt to the devices, and the run of the whole program.
-/
module

public import proofs.«01_k».proof.Proof.Body
public import proofs.«01_k».proof.Proof.Gen.KernelIdeal.Frame

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The buffers' contents -/

/-- Device `c`'s buffers as launched, -/
def V₀ (c : Dev nD) : Valuation τ sig (Elt F) := fun b => m (c, b)
/-- after the reshape of the routing column, -/
def V₁ (c : Dev nD) : Valuation τ sig (Elt F) := StableHlo.after hostOps0 (V₀ m c)

abbrev xOf (c : Dev nD) : Vec F S512x256 .bf16 := V₁ m c main_arg0
abbrev colOf (c : Dev nD) : Vec F S512x1 .i32 := V₁ m c main_arg2
abbrev rowOf (c : Dev nD) : Vec F S1x512 .i32 := V₁ m c main_v1
abbrev wOf (c : Dev nD) : Vec F S2x256x512 .bf16 := V₁ m c main_arg3

/-- The device whose slot an element of the gathered buffer is in. -/
def devOf (i : S4x112x512.Idx) : Dev nD := ⟨(i 0).val, (i 0).isLt⟩

/-- What the gathered buffer holds on every device at the end: in slot `d`, what device `d` computed. -/
def gath : Vec F S4x112x512 .bf16 := fun i => slotVal (devOf i) (xOf m (devOf i)) (rowOf m (devOf i)) (wOf m (devOf i)) (inSlot i)

theorem gath_slot (c : Dev nD) : ∀ i ∈ slotSet c, gath m i = slotVal c (xOf m c) (rowOf m c) (wOf m c) (inSlot i) := fun i hi => by
  have h : devOf i = c := Fin.ext (Finset.mem_filter.mp hi).2
  unfold gath; rw [h]

/-- and at the end, the result written. -/
def V₂ (c : Dev nD) : Valuation τ sig (Elt F) := Function.update (V₁ m c) (Proc.devRef .tc main_v2) (outVal (colOf m c) (gath m))

theorem V₂_out (c : Dev nD) : V₂ m c main_v2 = outVal (colOf m c) (gath m) := Function.update_self ..
theorem V₂_of_ne (c : Dev nD) {b : DevRef τ sig} (h : b ≠ Proc.devRef .tc main_v2) : V₂ m c b = V₁ m c b := Function.update_of_ne h ..
theorem V₁_of_ne (c : Dev nD) {b : DevRef τ sig} (h : b ≠ Proc.devRef .tc main_v1) : V₁ m c b = m (c, b) :=
  StableHlo.after_of_forall_not_mem (b := b) _ _ fun op ho => by
    simp only [List.mem_singleton] at ho; subst ho
    rw [StableHlo.reshape_writes, Finset.mem_singleton]; exact h

/-- The buffers that stay: the four arguments, the reshaped column, the result. -/
def bufs : Finset (DevRef τ sig) := (StableHlo.tcRefs τ sig).filter fun b => ¬ b.isScoped
/-- Of them, the one the kernel does not take. -/
abbrev rest : Finset (DevRef τ sig) := {Proc.devRef .tc main_arg1}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) rest W) := by
  have h : (bufs : Finset (DevRef τ sig)) = Pipeline.arrRefs (τ := τ) (pcfgs (F := F) 0).spec ∪ rest := by
    show (bufs : Finset (DevRef τ sig)) = Pipeline.arrRefs (τ := τ) spec0 ∪ rest
    decide
  have hd : Disjoint (Pipeline.arrRefs (τ := τ) (pcfgs (F := F) 0).spec) rest := by
    show Disjoint (Pipeline.arrRefs (τ := τ) spec0) rest
    decide
  rw [h]
  exact BI.bigSep_union hd

theorem bufs_all (c : Dev nD) (W : Valuation τ sig (Elt F)) : (StableHlo.held (c : Thread nD τ) bufs W : sProp 𝕄)
    = iprop(at_ c main_arg0 (W main_arg0) ∗ at_ c main_arg1 (W main_arg1) ∗ at_ c main_arg2 (W main_arg2) ∗ at_ c main_arg3 (W main_arg3)
        ∗ at_ c main_v2 (W main_v2) ∗ at_ c main_v1 (W main_v1)) := by
  unfold StableHlo.held
  rw [bigSep_eq_bigSepL_of_eq [Proc.devRef .tc main_arg0, Proc.devRef .tc main_arg1, Proc.devRef .tc main_arg2, Proc.devRef .tc main_arg3,
    Proc.devRef .tc main_v2, Proc.devRef .tc main_v1] (by decide) (by decide)]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The exchange from launch to the kernel -/

/-- What device `c` is dealt: its barrier position, the right to open each of its own cells, and the tokens of every duty it pays. -/
def dealt (c : Dev nD) : sProp 𝕄 :=
  iprop(atPos ER (barCell c) 0 ∅ 0 ∗ (bigSep Finset.univ fun k : Fin 7 => openTok ER (ownCell c k))
    ∗ (bigSep Finset.univ fun p : Dev nD => dutyTok ER (barCell p) 0 c) ∗ (bigSep Finset.univ fun p : Dev nD => dutyTok ER (recvCell p c) 0 c)
    ∗ bigSep Finset.univ fun j : Fin 3 => dutyTok ER (sendCell c j) 0 c)

/-- The credit of what the others owe it: three units on the barrier, and a slot from each peer. -/
def credits (c : Dev nD) : sProp 𝕄 :=
  iprop(cred (tallyAt (barCell c) () 3) ∗ cred (tallyAt (recvCell c (pr c 0)) () N) ∗ cred (tallyAt (recvCell c (pr c 1)) () N)
    ∗ cred (tallyAt (recvCell c (pr c 2)) () N))

/-- What is kept for the kernel from launch. -/
def kept (c : Dev nD) : sProp 𝕄 := iprop((∃ κ, records (gath m) κ ∗ dealt c) ∗ credits c)

/-- What the kernel is entered with. -/
def entered (c : Dev nD) : sProp 𝕄 := iprop(∃ κ, opened (gath m) κ c)

/-- Over a device's own seven semaphores: its three send ones, and its four receive ones. -/
theorem bigSep_own {M : Type} [URA M] (Φ : Fin 7 → sProp M) :
    bigSep Finset.univ Φ = iprop((bigSep Finset.univ fun j : Fin 3 => Φ (Fin.castAdd 4 j)) ∗ bigSep Finset.univ fun k : Fin 4 => Φ (Fin.natAdd 3 k)) := by
  rw [bigSep_univ_equiv (finSumFinEquiv (m := 3) (n := 4)) Φ, bigSep_univ_sum]
  rfl

theorem bigSep_three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

/-- A device's own cells, split by peer. -/
theorem own_cells {M : Type} [URA M] (c : Dev nD) (Φ : GSem nD τ sig → sProp M) :
    (bigSep Finset.univ fun k : Fin 7 => Φ (ownCell c k))
      = iprop((Φ (sendCell c 0) ∗ Φ (sendCell c 1) ∗ Φ (sendCell c 2))
        ∗ Φ (recvCell c c) ∗ Φ (recvCell c (pr c 0)) ∗ Φ (recvCell c (pr c 1)) ∗ Φ (recvCell c (pr c 2))) := by
  rw [bigSep_own, bigSep_three, bigSep_congr (s := Finset.univ) (Ψ := fun k : Dev nD => Φ (recvCell c k)) fun k _ => by rw [own_recv],
    bigSep_devices c]
  rfl

/-- OPENING: with its own counters at zero, a device opens its seven cells. -/
theorem enter (c : Dev nD) : iprop(kept m c ∗ Pipeline.ownSems0 osem c ∗ levAts L lv) ⊢ (|={Set.univ}=> entered m c : sProp 𝕄) := by
  have hopen (κ : GSem nD τ sig → ℕ) : iprop(records (gath m) κ
        ∗ bigSep Finset.univ fun k : Fin 7 => iprop(openTok ER (ownCell c k) ∗ semVal (ownCell c k) 0))
      ⊢ (|={Set.univ}=> bigSep Finset.univ fun k : Fin 7 => iprop(atPos ER (ownCell c k) 0 ∅ 0 ∗ reached ER (ownCell c k) 0) : sProp 𝕄) := by
    refine (bigSep_with_persistent (R := records (gath m) κ) fun k _ => ?_).trans (bigSep_fupd _ _)
    iintro ⟨#HR, Ho, Hv⟩
    ihave #HI := (records_own (gath m) κ c k) $$ HR
    iapply (Rounds.cell_open ER (rd (gath m)) (g := ownCell c k) (Set.mem_univ (κ (ownCell c k))))
    isplitr; · iexact HI
    isplitl [Ho] <;> iassumption
  unfold kept dealt credits
  rw [bigSep_devices c, bigSep_devices c, bigSep_three]
  iintro ⟨⟨⟨%κ, #HR, HatB, Ho, ⟨-, B0, B1, B2⟩, ⟨-, R0, R1, R2⟩, S0, S1, S2⟩, HcB, Hc0, Hc1, Hc2⟩, Hv, #Hlev⟩
  imod (hopen κ) $$ [Ho Hv] with H
  · isplitr; · iexact HR
    iapply (Entails.of_eq (bigSep_sep' Finset.univ _ _).symm)
    isplitl [Ho]; · iexact Ho
    iapply (Entails.of_eq (show (Pipeline.ownSems0 osem c : sProp 𝕄) = bigSep Finset.univ fun k : Fin 7 => semVal (ownCell c k) 0 from rfl))
    iexact Hv
  ihave H := (Entails.of_eq (own_cells c fun g => iprop(atPos ER g 0 ∅ 0 ∗ reached ER g 0))) $$ H
  icases H with ⟨⟨HS0, HS1, HS2⟩, ⟨Hself, -⟩, HR0, HR1, HR2⟩
  imodintro
  unfold entered opened link
  iexists κ
  isplitr; · iexact HR
  isplitr; · iexact Hlev
  isplitl [HatB]; · iexact HatB
  isplitl [HcB]; · iexact HcB
  isplitl [Hself]; · iexact Hself
  isplitl [B0 R0 S0 Hc0 HS0 HR0]
  · isplitl [B0 R0 S0]
    · isplitl [B0]; · iexact B0
      isplitl [R0] <;> iassumption
    isplitl [Hc0]; · iexact Hc0
    isplitl [HS0] <;> iassumption
  isplitl [B1 R1 S1 Hc1 HS1 HR1]
  · isplitl [B1 R1 S1]
    · isplitl [B1]; · iexact B1
      isplitl [R1] <;> iassumption
    isplitl [Hc1]; · iexact Hc1
    isplitl [HS1] <;> iassumption
  isplitl [B2 R2 S2]
  · isplitl [B2]; · iexact B2
    isplitl [R2] <;> iassumption
  isplitl [Hc2]; · iexact Hc2
  isplitl [HS2] <;> iassumption

/-! ## The kernel as a region -/

/-- A device's own counters at zero. -/
abbrev ownZero (c : Dev nD) : sProp 𝕄 := Pipeline.ownSems0 osem c
/-- The gathered buffer, at any contents. -/
abbrev slotsAny (c : Dev nD) : sProp 𝕄 := iprop(∃ f, at_ c cc0_scratch0 f)

/-- The staged arrays, before the kernel and after. -/
def stagedVal (c : Dev nD) : (w : Fin cfg0.W) → (cfg0.win w).block.Idx → Elt F (cfg0.win w).elt
  | 0 => xOf m c
  | 1 => colOf m c
  | 2 => rowOf m c
  | 3 => wOf m c
  | 4 => outVal (colOf m c) (gath m)

/-- The kernel's data: the arrays as @main hands them over; the exchange open before its one point and closed after; what is owed
    is paid. -/
def dat (c : Dev nD) : Pipeline.Dat τ (Elt F) Unit ℕ UU ℕ cfg0 c where
  A w := V₁ m c (Proc.devRef .tc (Pipeline.arrRef spec0 w))
  after w _ := stagedVal m c w
  Φ t := if t.val = 0 then iprop(entered m c ∗ slotsAny c ∗ ∃ r, prngReg c r)
    else iprop((semVal (barCell c) 0 ∗ ownZero c) ∗ slotsAny c ∗ ∃ r, prngReg c r)
  q _ := fullShare
  owed t := if t.val = 0 then O₀ c else 0

abbrev adm : (p : Fin 1) → (pcfgs (F := F) p).Adm := fun p => (cfgs p).toPCfg_adm
def pdats (p : Fin 1) (c : Dev nD) : Pipeline.Dat τ (Elt F) Unit ℕ UU ℕ (Pipeline.pin (pcfgs (F := F)) adm p) c := dat m c

/-- A window that is a whole buffer reads what the buffer holds. -/
theorem blk_x (t : Fin cfg0.N) (f : Vec F S512x256 .bf16) : ((cfg0.win 0).blk t).view.read (Elt F) f = f :=
  funext fun i => congrArg f (funext fun a => Fin.ext (by show 0 * _ + 1 * (i a).val = (i a).val; omega))
theorem blk_col (t : Fin cfg0.N) (f : Vec F S512x1 .i32) : ((cfg0.win 1).blk t).view.read (Elt F) f = f :=
  funext fun i => congrArg f (funext fun a => Fin.ext (by show 0 * _ + 1 * (i a).val = (i a).val; omega))
theorem blk_row (t : Fin cfg0.N) (f : Vec F S1x512 .i32) : ((cfg0.win 2).blk t).view.read (Elt F) f = f :=
  funext fun i => congrArg f (funext fun a => Fin.ext (by show 0 * _ + 1 * (i a).val = (i a).val; omega))
theorem blk_w (t : Fin cfg0.N) (f : Vec F S2x256x512 .bf16) : ((cfg0.win 3).blk t).view.read (Elt F) f = f :=
  funext fun i => congrArg f (funext fun a => Fin.ext (by show 0 * _ + 1 * (i a).val = (i a).val; omega))
theorem blk_out (t : Fin cfg0.N) (f : Vec F S512x512 .bf16) : ((cfg0.win 4).blk t).view.read (Elt F) f = f :=
  funext fun i => congrArg f (funext fun a => Fin.ext (by show 0 * _ + 1 * (i a).val = (i a).val; omega))

/-- Each input is staged as @main hands it over. -/
theorem before_x (c : Dev nD) (t : Fin cfg0.N) (d) : (dat m c).before 0 t d = xOf m c :=
  ((dat m c).before_in_eq_fetched 0 rfl (fun _ => rfl) (fun _ _ _ => rfl) (fun t => (blk_x t (xOf m c)).symm) t d).trans (blk_x t (xOf m c))
theorem before_col (c : Dev nD) (t : Fin cfg0.N) (d) : (dat m c).before 1 t d = colOf m c :=
  ((dat m c).before_in_eq_fetched 1 rfl (fun _ => rfl) (fun _ _ _ => rfl) (fun t => (blk_col t (colOf m c)).symm) t d).trans (blk_col t (colOf m c))
theorem before_row (c : Dev nD) (t : Fin cfg0.N) (d) : (dat m c).before 2 t d = rowOf m c :=
  ((dat m c).before_in_eq_fetched 2 rfl (fun _ => rfl) (fun _ _ _ => rfl) (fun t => (blk_row t (rowOf m c)).symm) t d).trans (blk_row t (rowOf m c))
theorem before_w (c : Dev nD) (t : Fin cfg0.N) (d) : (dat m c).before 3 t d = wOf m c :=
  ((dat m c).before_in_eq_fetched 3 rfl (fun _ => rfl) (fun _ _ _ => rfl) (fun t => (blk_w t (wOf m c)).symm) t d).trans (blk_w t (wOf m c))

theorem owed_first (c : Dev nD) : (dat m c).owed 0 = O₀ c := by
  show (if (0 : Fin (cfg0.N + 1)).val = 0 then O₀ c else 0) = O₀ c; exact if_pos rfl
theorem owed_point (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- CLOSED: what the body leaves of the exchange is every counter of the device at zero. -/
theorem closed_eq (c : Dev nD) : (closed c : sProp 𝕄) ⊢ iprop(semVal (barCell c) 0 ∗ ownZero c) := by
  unfold closed
  exact sep_mono_right (Entails.of_eq (own_cells c fun g => (semVal g 0 : sProp 𝕄)).symm)

/-- The kernel's body, as the pipeline calls it. -/
theorem body (c : Dev nD) : BodyObligation (dat m c) defs₀ 𝒱₀ () Set.univ := fun t => by
  obtain rfl := fin_N0 t
  have hrun (κ) (W) (Q : PUnit → sProp 𝕄) := body_run (gath m) κ c (xOf m c) (colOf m c) (rowOf m c) (wOf m c) (gath_slot m c) W Q
  rw [bigSep_W0, bigSep_W0]
  rw [show (dat m c).Φ t0_0.castSucc = iprop(entered m c ∗ slotsAny c ∗ ∃ r, prngReg c r) from rfl,
    show (dat m c).Φ t0_0.succ = iprop((semVal (barCell c) 0 ∗ ownZero c) ∗ slotsAny c ∗ ∃ r, prngReg c r) from rfl]
  have e0 (X) : (owns (c : Thread nD τ) ((cfg0.win 0).stage (cfg0.slots t0_0 0)) fullShare X : sProp 𝕄) = at_ c cc0_stg0_0 X := owns_whole (c : Thread nD τ) cc0_stg0_0 fullShare X
  have e1 (X) : (owns (c : Thread nD τ) ((cfg0.win 1).stage (cfg0.slots t0_0 1)) fullShare X : sProp 𝕄) = at_ c cc0_stg1_0 X := owns_whole (c : Thread nD τ) cc0_stg1_0 fullShare X
  have e2 (X) : (owns (c : Thread nD τ) ((cfg0.win 2).stage (cfg0.slots t0_0 2)) fullShare X : sProp 𝕄) = at_ c cc0_stg2_0 X := owns_whole (c : Thread nD τ) cc0_stg2_0 fullShare X
  have e3 (X) : (owns (c : Thread nD τ) ((cfg0.win 3).stage (cfg0.slots t0_0 3)) fullShare X : sProp 𝕄) = at_ c cc0_stg3_0 X := owns_whole (c : Thread nD τ) cc0_stg3_0 fullShare X
  have e4 (X) : (owns (c : Thread nD τ) ((cfg0.win 4).stage (cfg0.slots t0_0 4)) fullShare X : sProp 𝕄) = at_ c cc0_stg4_0 X := owns_whole (c : Thread nD τ) cc0_stg4_0 fullShare X
  show iprop((entered m c ∗ slotsAny c ∗ ∃ r, prngReg c r) ∗ (dat m c).owesAt () t0_0.castSucc
      ∗ (∃ d, owns c ((cfg0.win 0).stage (cfg0.slots t0_0 0)) fullShare ((dat m c).before 0 t0_0 d))
      ∗ (∃ d, owns c ((cfg0.win 1).stage (cfg0.slots t0_0 1)) fullShare ((dat m c).before 1 t0_0 d))
      ∗ (∃ d, owns c ((cfg0.win 2).stage (cfg0.slots t0_0 2)) fullShare ((dat m c).before 2 t0_0 d))
      ∗ (∃ d, owns c ((cfg0.win 3).stage (cfg0.slots t0_0 3)) fullShare ((dat m c).before 3 t0_0 d))
      ∗ (∃ d, owns c ((cfg0.win 4).stage (cfg0.slots t0_0 4)) fullShare ((dat m c).before 4 t0_0 d)))
    ⊢ wp frame (wpE (defs₀ (F := F)) 𝒱₀ c none) Set.univ (bodyAt0 t0_0) fun _ =>
      iprop(((semVal (barCell c) 0 ∗ ownZero c) ∗ slotsAny c ∗ ∃ r, prngReg c r) ∗ (dat m c).owesAt () t0_0.succ
      ∗ owns c ((cfg0.win 0).stage (cfg0.slots t0_0 0)) fullShare (xOf m c)
      ∗ owns c ((cfg0.win 1).stage (cfg0.slots t0_0 1)) fullShare (colOf m c)
      ∗ owns c ((cfg0.win 2).stage (cfg0.slots t0_0 2)) fullShare (rowOf m c)
      ∗ owns c ((cfg0.win 3).stage (cfg0.slots t0_0 3)) fullShare (wOf m c)
      ∗ owns c ((cfg0.win 4).stage (cfg0.slots t0_0 4)) fullShare (outVal (colOf m c) (gath m)))
  simp only [before_x, before_col, before_row, before_w, e0, e1, e2, e3, e4]
  iintro ⟨⟨He, Hs, Hr⟩, HO, ⟨%d0, H0⟩, ⟨%d1, H1⟩, ⟨%d2, H2⟩, ⟨%d3, H3⟩, ⟨%d4, H4⟩⟩
  ihave HO' := (owesAt_elim m c _ (O₀ c) (owed_point m c)) $$ HO
  icases HO' with ⟨%W, HO⟩
  unfold entered
  icases He with ⟨%κ, He⟩
  iapply (hrun κ W _)
  unfold staged
  isplitl [He Hs HO H0 H1 H2 H3 H4]
  · isplitl [He]; · iexact He
    isplitl [H0 H1 H2 H3]
    · isplitl [H0]; · iexact H0
      isplitl [H1]; · iexact H1
      isplitl [H2] <;> iassumption
    isplitl [H4]; · iexists _; iexact H4
    isplitl [Hs]; · iexact Hs
    iexact HO
  iintro ⟨Hc, ⟨H0, H1, H2, H3⟩, H4, Hs, ⟨%W', HO⟩⟩
  isplitl [Hc Hs Hr]
  · isplitl [Hc]; · iapply (closed_eq c); iexact Hc
    isplitl [Hs] <;> iassumption
  isplitl [HO]; · iapply (owesAt_intro m c t0_0.succ 0 (owed_last m c) W'); iexact HO
  isplitl [H0]; · iexact H0
  isplitl [H1]; · iexact H1
  isplitl [H2]; · iexact H2
  isplitl [H3]; · iexact H3
  iexact H4

end Cert.KernelIdeal.Moe

end
-- ==== Proof.Run.lean ====
/-
  The run of the whole program: @main as a reshape and the kernel's region, the exchange's ghost state dealt to the devices at
  launch, and what every final memory holds.
-/
module

public import proofs.«01_k».proof.Proof.Launch

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The two segments of @main -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides along while the host reshapes. -/
def aside (c : Dev nD) : sProp 𝕄 := iprop((kept m c ∗ ∃ r, prngReg c r) ∗ ∃ W, owes (c : Thread nD τ) (O₀ c) W)

theorem host_sub : ∀ op ∈ (hostOps0 : List (HloOp τ sig (Elt F))), op.bufs ⊆ bufs := fun op h => by
  simp only [List.mem_singleton] at h; subst h
  show ({Proc.devRef .tc main_arg2, Proc.devRef .tc main_v1} : Finset (DevRef τ sig)) ⊆ bufs; decide
theorem host_fresh : ∀ op ∈ (hostOps0 : List (HloOp τ sig (Elt F))), op.fresh = ∅ := List.forall_iff_forall_mem.mp hostOps0_fresh

/-- The reshape. -/
def hostSeg : ℍ := Pipeline.HostSeg.ofOps _ _ _ _ _ bufs hostOps0 host_sub host_fresh (V₀ m) (aside m)

/-- The facts of the windows' layout. -/
theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed at launch is owed to barrier cells and receive cells. -/
theorem owed_pos (c : Dev nD) {g : GSem nD τ sig} {u : Unit} (h : 0 < O₀ c g u) : ∃ p, g = recvCell p c ∨ g = barCell p := by
  unfold O₀ at h
  rcases Nat.add_pos_iff_pos_or_pos.mp (show 0 < (oweRecv c 2 + oweRecv c 1 + oweRecv c 0 + oweBar c 2 + oweBar c 1) g u + oweBar c 0 g u from h) with h | h
  · rcases Nat.add_pos_iff_pos_or_pos.mp (show 0 < (oweRecv c 2 + oweRecv c 1 + oweRecv c 0 + oweBar c 2) g u + oweBar c 1 g u from h) with h | h
    · rcases Nat.add_pos_iff_pos_or_pos.mp (show 0 < (oweRecv c 2 + oweRecv c 1 + oweRecv c 0) g u + oweBar c 2 g u from h) with h | h
      · obtain ⟨j, h⟩ := owed_recv c h
        exact ⟨_, .inl h⟩
      · exact ⟨_, .inr (tallyAt_pos h)⟩
    · exact ⟨_, .inr (tallyAt_pos h)⟩
  · exact ⟨_, .inr (tallyAt_pos h)⟩

theorem above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨p, rfl | rfl⟩ := owed_pos c h
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

/-- The staging semaphores lie below the exchange's. -/
theorem staging_low (c : Dev nD) (w : Fin 5) (s : Fin (cfg0.win w).nbuf) : lv ((c : Thread nD τ), .dma ((cfg0.win w).sem s)) () ≤ 0 := by
  revert c w s; decide

theorem share_full (c : Dev nD) (w : Fin 5) : (dat m c).share w = fullShare := by
  match w with
  | 0 => rfl
  | 1 => rfl
  | 2 => rfl
  | 3 => rfl
  | 4 => rfl

theorem scopedRest_eq (c : Dev nD) : (Pipeline.scopedRest (Ix := Unit) (Name := ℕ) (U := UU) (Lvl := ℕ) (Val := Elt F)
    (Pipeline.pin (pcfgs (F := F)) adm 0).spec c : sProp 𝕄) = slotsAny c := scopedRest0_eq c

theorem held_none (c : Dev nD) (W : Valuation τ sig (Elt F)) : (StableHlo.held (c.tc : Thread nD τ) ∅ W : sProp 𝕄) = BI.emp := by
  unfold StableHlo.held; exact BI.bigSep_empty

theorem region_in (c : Dev nD) : iprop(Pipeline.scopedRest (Pipeline.pin (pcfgs (F := F)) adm 0).spec c ∗ (∃ r, prngReg c r)
      ∗ StableHlo.held (c.tc : Thread nD τ) ∅ (V₁ m c) ∗ entered m c) ⊢ (pdats m 0 c).Φ 0 := by
  rw [show (pdats m 0 c).Φ 0 = iprop(entered m c ∗ slotsAny c ∗ ∃ r, prngReg c r) from rfl, scopedRest_eq, held_none]
  iintro ⟨Hs, Hp, -, HX⟩
  isplitl [HX]; · iexact HX
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ ownZero c ∗ semVal (barCell c) 0) := by
  rw [show (pdats m 0 c).Φ (Fin.last _) = iprop((semVal (barCell c) 0 ∗ ownZero c) ∗ slotsAny c ∗ ∃ r, prngReg c r) from rfl, scopedRest_eq, held_none]
  iintro ⟨⟨HB, HO⟩, Hs, Hp⟩
  isplitl [Hs]; · iexact Hs
  isplitl [Hp]; · iexact Hp
  isplitr; · iempintro
  isplitl [HO] <;> iassumption

/-- The result's array after its one write-back. -/
theorem out_written (c : Dev nD) : (dat m c).arrAt 4 cfg0.N = outVal (colOf m c) (gath m) := by
  have h := (dat m c).arrAt_succ 4 t0_0
  rw [if_pos (by decide)] at h
  have hN : cfg0.N = t0_0.val + 1 := N_0
  rw [hN]
  exact h.trans ((blk_out t0_0 _).symm.trans (View.read_write_univ _ _))

theorem arrays_in (c : Dev nD) (w : Fin 5) : (dat m c).arrAt w 0 = V₁ m c (Proc.devRef .tc (Pipeline.arrRef spec0 w)) := rfl

theorem arrays_out (c : Dev nD) (w : Fin 5) : (dat m c).arrAt w cfg0.N = V₂ m c (Proc.devRef .tc (Pipeline.arrRef spec0 w)) := by
  match w with
  | 0 => exact ((dat m c).arrAt_in 0 rfl _).trans (V₂_of_ne m c (b := Proc.devRef .tc main_arg0) (by decide)).symm
  | 1 => exact ((dat m c).arrAt_in 1 rfl _).trans (V₂_of_ne m c (b := Proc.devRef .tc main_arg2) (by decide)).symm
  | 2 => exact ((dat m c).arrAt_in 2 rfl _).trans (V₂_of_ne m c (b := Proc.devRef .tc main_v1) (by decide)).symm
  | 3 => exact ((dat m c).arrAt_in 3 rfl _).trans (V₂_of_ne m c (b := Proc.devRef .tc main_arg3) (by decide)).symm
  | 4 => exact (out_written m c).trans (V₂_out m c).symm

set_option backward.isDefEq.respectTransparency.types false in
/-- The kernel. -/
def region : ℝ𝕊 0 :=
  Pipeline.RegionSeg.ofTalk (pcfgs (F := F)) adm (pdats m) () defs₀ 𝒱₀ L lv 0 osem (by decide : Pipeline.OwnSemFacts spec0 osem)
    ∅ rest (Finset.empty_subset _) layout rfl (fun c => (body m c).loose)
    (fun _ => 0) O₀ (fun c => (owed_first m c).trans (zero_add _).symm) (owed_last m) (fun _ => rfl) (share_full m)
    (V₁ m) (V₂ m) (fun c b hb => V₂_of_ne m c (by
      rw [Finset.sdiff_empty, Finset.mem_singleton] at hb; subst hb; decide))
    (kept m) (fun c => semVal (barCell c) 0) (entered m) (fun c => semVal (barCell c) 0) (enter m) (region_in m) (region_out m)
    (fun c => by iintro H; imodintro; iexact H)
    (fun _ => 0)
    ⟨fun c _ _ => by rw [L_tc]; exact Finset.mem_singleton_self _, fun c w s => staging_low c w s, fun c t g i h => above m c t g i h⟩
    (fun _ => iprop(emp))
    (arrays_in m) (arrays_out m)

theorem region_pre (c : Dev nD) : iprop(StableHlo.held (c : Thread nD τ) bufs (V₁ m c) ∗ aside m c) ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ kept m c ∗ ∃ Wd, owes (c : Thread nD τ) (0 + O₀ c) Wd)
  rw [zero_add, bufs_split]
  unfold aside
  iintro ⟨⟨Ha, Hr⟩, ⟨HK, Hp⟩, HO⟩
  isplitl [Ha]; · iexact Ha
  isplitl [Hp]; · iexact Hp
  isplitl [Hr]
  · isplitl [Hr]; · iexact Hr
    iempintro
  isplitl [HK] <;> iassumption

theorem region_post (c : Dev nD) : (region m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rest (V₂ m c) ∗ emp) ∗ semVal (barCell c) 0 ∗ ∃ Wd, owes (c : Thread nD τ) (0 : CellTallies nD τ sig Unit) Wd) ⊢ _
  rw [bufs_split]
  iintro ⟨Ha, -, ⟨Hr, -⟩, Hb, HO⟩
  isplitr [HO]
  · isplitr [Hb]
    · isplitl [Ha] <;> iassumption
    iexact Hb
  iexact HO

/-- @main, as its two segments. -/
def segs : List (Pipeline.Seg (pcfgs (F := F)) adm (pdats m) () defs₀ 𝒱₀ L lv) := [.host (hostSeg m), .region (region m)]

theorem main_eq (c : Dev nD) : main (F := F) c = Pipeline.Seg.run (segs m) :=
  main_segs adm (pdats m) () 𝒱₀ L lv (hostSeg m) (region m) rfl c

end Cert.KernelIdeal.Moe

end
-- ==== Proof.Deal.lean ====
/-
  The launch's ghost state: every cell's invariant made, the scoped cells' unopened, every duty's token dealt to the device that
  pays it; then the run of the whole program.
-/
module

public import proofs.«01_k».proof.Proof.Run

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def barEmb : Dev nD ↪ GSem nD τ sig := ⟨fun c => barCell c, fun _ _ h => congrArg (fun g : GSem nD τ sig => g.1.1) h⟩
theorem osem_inj : Function.Injective osem := by decide
def ownEmb : Dev nD × Fin 7 ↪ GSem nD τ sig :=
  ⟨fun ck => ownCell ck.1 ck.2, fun _ _ h => Prod.ext (congrArg (fun g : GSem nD τ sig => g.1.1) h) (osem_inj (congrArg Prod.snd h))⟩

/-- The barrier cells, whose counters are there at launch; each device's own cells, whose counters come with the kernel. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  have h' : (SemLoc.dma _ : SemLoc sig) = .reg barS := congrArg Prod.snd h
  exact nomatch h'

/-- The cells a device pays: every device's barrier cell, its receive cell on every device, its send cells. -/
def paid (c : Dev nD) : Dev nD ⊕ Dev nD ⊕ Fin 3 → GSem nD τ sig
  | .inl p => barCell p
  | .inr (.inl p) => recvCell p c
  | .inr (.inr j) => sendCell c j

theorem paid_inj (c : Dev nD) : Function.Injective (paid c) := by revert c; decide

/-- The token of each of those, at its one round, named by the payer. -/
def tokens : Finset (GSem nD τ sig × ℕ × Dev nD) :=
  Finset.univ.map ⟨fun ct : Dev nD × (Dev nD ⊕ Dev nD ⊕ Fin 3) => (paid ct.1 ct.2, 0, ct.1), fun a b h => by
    have h1 : a.1 = b.1 := congrArg (fun t : GSem nD τ sig × ℕ × Dev nD => t.2.2) h
    have h2 : paid a.1 a.2 = paid b.1 b.2 := congrArg (fun t : GSem nD τ sig × ℕ × Dev nD => t.1) h
    rw [h1] at h2
    exact Prod.ext h1 (paid_inj _ h2)⟩

theorem tokens_eq : bigSep tokens (fun x => (dutyTok ER x.1 x.2.1 x.2.2 : sProp 𝕄))
    = bigSep Finset.univ fun c : Dev nD => iprop((bigSep Finset.univ fun p : Dev nD => dutyTok ER (barCell p) 0 c)
        ∗ (bigSep Finset.univ fun p : Dev nD => dutyTok ER (recvCell p c) 0 c) ∗ bigSep Finset.univ fun j : Fin 3 => dutyTok ER (sendCell c j) 0 c) := by
  unfold tokens; rw [bigSep_map, bigSep_univ_prod]
  refine bigSep_congr fun c _ => ?_
  rw [bigSep_univ_sum, bigSep_univ_sum]
  rfl

/-- The launch element: the staging pipeline's, and the exchange's. -/
def u₀ : UU :=
  (initOf (Pipeline.cells (Pipeline.pin (pcfgs (F := F)) adm) cellOf_inj) (Pipeline.launchToks (Pipeline.pin (pcfgs (F := F)) adm) cellOf_inj),
    launchOf barCells ownCells tokens)

/-- The exchange's launch element, kept by device 0 until it is dealt. -/
def parked (c : Dev nD) : sProp 𝕄 := if c = 0 then BI.own (ER (launchOf barCells ownCells tokens)) else iprop(emp)

theorem parked_all : bigSep Finset.univ (parked (F := F)) = BI.own (ER (launchOf barCells ownCells tokens)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## The credit at launch -/

theorem bar_at_bar (p c : Dev nD) (n : ℕ) : (tallyAt (barCell p) () n : CellTallies nD τ sig Unit) (barCell c) () = if c = p then n else 0 := by
  rw [tallyAt_apply]
  by_cases h : c = p
  · subst h; rw [if_pos ⟨rfl, rfl⟩, if_pos rfl]
  · rw [if_neg (fun e => h (congrArg (fun g : GSem nD τ sig => g.1.1) e.1)), if_neg h]
theorem recv_at_recv (p d c k : Dev nD) (n : ℕ) : (tallyAt (recvCell p d) () n : CellTallies nD τ sig Unit) (recvCell c k) () = if c = p ∧ k = d then n else 0 := by
  rw [tallyAt_apply]
  have hs : ∀ k d : Dev nD, recvS k = recvS d → k = d := by decide
  by_cases h : c = p ∧ k = d
  · obtain ⟨rfl, rfl⟩ := h; rw [if_pos ⟨rfl, rfl⟩, if_pos ⟨rfl, rfl⟩]
  · rw [if_neg (fun e => h ⟨congrArg (fun g : GSem nD τ sig => g.1.1) e.1, hs k d (SemLoc.dma.inj (congrArg Prod.snd e.1))⟩), if_neg h]
theorem bar_at_recv (p c k : Dev nD) (n : ℕ) : (tallyAt (barCell p) () n : CellTallies nD τ sig Unit) (recvCell c k) () = 0 := by
  rw [tallyAt_apply]
  refine if_neg fun e => ?_
  have h : (SemLoc.dma (recvS k) : SemLoc sig) = .reg barS := congrArg Prod.snd e.1
  exact nomatch h
theorem recv_at_bar (p d c : Dev nD) (n : ℕ) : (tallyAt (recvCell p d) () n : CellTallies nD τ sig Unit) (barCell c) () = 0 := by
  rw [tallyAt_apply]
  refine if_neg fun e => ?_
  have h : (SemLoc.reg barS : SemLoc sig) = .dma (recvS d) := congrArg Prod.snd e.1
  exact nomatch h

theorem owed_apply (d : Dev nD) (g : GSem nD τ sig) : O₀ d g ()
    = oweRecv d 2 g () + oweRecv d 1 g () + oweRecv d 0 g () + oweBar d 2 g () + oweBar d 1 g () + oweBar d 0 g () := rfl

theorem owed_to_bar (c : Dev nD) : ∑ d, O₀ d (barCell c) () = 3 := by
  simp only [owed_apply, recv_at_bar, bar_at_bar]
  revert c; decide
theorem owed_to_recv (c : Dev nD) (j : Fin 3) : ∑ d, O₀ d (recvCell c (pr c j)) () = N := by
  simp only [owed_apply, bar_at_recv, recv_at_recv]
  generalize N = n
  have h : ∀ (c : Dev nD) (j : Fin 3), (∑ d : Dev nD, ((if c = pr d 2 ∧ pr c j = d then 1 else 0) + (if c = pr d 1 ∧ pr c j = d then 1 else 0)
      + (if c = pr d 0 ∧ pr c j = d then 1 else 0))) = 1 := by decide
  have e : ∀ (P : Prop) [Decidable P], (if P then n else 0) = n * (if P then 1 else 0) := fun P _ => by split <;> simp
  simp only [e (_ ∧ _), ← Nat.mul_add, add_zero, ← Finset.mul_sum]
  rw [h, mul_one]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_to_bar]
theorem credit_recv (c : Dev nD) (j : Fin 3) : tallyOn (recvCell c (pr c j)) (launchCredit (Pipeline.owing O₀) 0 (recvCell c (pr c j)))
    = (tallyAt (recvCell c (pr c j)) () N : CellTallies nD τ sig Unit) := by
  unfold tallyAt; refine congrArg _ (Finsupp.ext fun u => ?_); cases u
  rw [Pipeline.launchCredit_owing, Finsupp.single_eq_same, owed_to_recv]

theorem credits_intro (c : Dev nD) : (Pipeline.launchCred O₀ c : sProp 𝕄) ⊢ credits c := by
  unfold Pipeline.launchCred credits
  refine (bigSep_subset (t := {SemLoc.reg barS, .dma (recvS (pr c 0)), .dma (recvS (pr c 1)), .dma (recvS (pr c 2))}) (Finset.subset_univ _)).trans ?_
  rw [bigSep_insert (by revert c; decide), bigSep_insert (by revert c; decide), bigSep_insert (by revert c; decide), bigSep_singleton,
    credit_bar, credit_recv, credit_recv, credit_recv]
  exact BI.Entails.refl _

/-! ## The deal -/

abbrev start (c : Dev nD) : sProp 𝕄 := iprop(StableHlo.held (c : Thread nD τ) bufs (V₀ m c) ∗ aside m c)
abbrev final (c : Dev nD) : sProp 𝕄 := iprop(StableHlo.held (c : Thread nD τ) bufs (V₂ m c) ∗ semVal (barCell c) 0)

/-- What a device has at launch beside the exchange's ghost state. -/
def plain (c : Dev nD) : sProp 𝕄 :=
  iprop(StableHlo.held (c : Thread nD τ) bufs (V₀ m c) ∗ credits c ∗ owes (c : Thread nD τ) (O₀ c) ∅ ∗ ∃ r, prngReg c r)

theorem start_intro (κ : GSem nD τ sig → ℕ) (c : Dev nD) : iprop(records (gath m) κ ∗ (dealt c ∗ plain m c)) ⊢ start m c := by
  unfold plain start aside kept
  iintro ⟨#HR, Hl, Hh, Hc, HO, Hp⟩
  isplitl [Hh]; · iexact Hh
  isplitr [HO]
  · isplitr [Hp]
    · isplitl [Hl]
      · iexists κ
        isplitr; · iexact HR
        iexact Hl
      iexact Hc
    iexact Hp
  · iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(plain m c ∗ semVal (barCell c) 0 ∗ parked c) : sProp 𝕄) := by
    rw [show unscopedBufs c (fun b => m ((c : Thread nD τ).loc b)) = StableHlo.held (c : Thread nD τ) bufs (V₀ m c) from unscopedBufs_held c (V₀ m c),
      unscopedSems0_eq]
    unfold plain
    iintro ⟨Hh, Hus, HO, Hcr, Hp, HG⟩
    isplitl [Hh HO Hcr Hp]
    · isplitl [Hh]; · iexact Hh
      isplitl [Hcr]; · iapply (credits_intro (F := F) c); iexact Hcr
      isplitl [HO]; · iexact HO
      iexists (ρ c); iexact Hp
    isplitl [Hus] <;> iassumption
  have hbar (Φ : GSem nD τ sig → sProp 𝕄) : bigSep barCells Φ = bigSep Finset.univ fun c : Dev nD => Φ (barCell c) :=
    bigSep_map (s := Finset.univ) barEmb
  have hown (Φ : GSem nD τ sig → sProp 𝕄) : bigSep ownCells Φ = bigSep Finset.univ fun c : Dev nD => bigSep Finset.univ fun k : Fin 7 => Φ (ownCell c k) := by
    rw [bigSep_map, bigSep_univ_prod]; rfl
  have hall (Φ : GSem nD τ sig → sProp 𝕄) : bigSep (barCells ∪ ownCells) Φ
      = iprop((bigSep Finset.univ fun c : Dev nD => Φ (barCell c)) ∗ bigSep Finset.univ fun c : Dev nD => bigSep Finset.univ fun k : Fin 7 => Φ (ownCell c k)) := by
    rw [← hbar, ← hown]; exact bigSep_union cells_disjoint
  have hrec (κ : GSem nD τ sig → ℕ) : iprop((bigSep Finset.univ fun p : Dev nD => cellInv ER (rd (gath m)) (κ (barCell p)) (barCell p))
        ∗ (bigSep Finset.univ fun p : Dev nD => reached ER (barCell p) 0)
        ∗ bigSep Finset.univ fun p : Dev nD => bigSep Finset.univ fun k : Fin 7 => cellInv ER (rd (gath m)) (κ (ownCell p k)) (ownCell p k))
      ⊢ (records (gath m) κ : sProp 𝕄) := by
    unfold records
    rw [bigSep_sep']
    exact sep_assoc.2
  refine sep_elim_left.trans ((bigSep_mono fun c _ => hcore c).trans ?_)
  rw [bigSep_sep', bigSep_sep', parked_all, ← hbar fun g => semVal g 0]
  show iprop(bigSep Finset.univ (plain m) ∗ bigSep barCells (fun g => semVal g 0) ∗ BI.own (ER (launchOf barCells ownCells tokens)))
    ⊢ (|={Set.univ}=> bigSep Finset.univ (start m) : sProp 𝕄)
  iintro ⟨HP, Hv, Hu⟩
  imod (Rounds.fund_launch ER (rd (gath m)) cells_disjoint (fun g _ h => h) tokens) $$ [Hv Hu] with ⟨%κ, -, #Hinv, #Hr, Hat, Hopen, Htok⟩
  · isplitl [Hv] <;> iassumption
  imodintro
  iapply (bigSep_with_persistent (R := records (gath m) κ) (Φ := fun c => iprop(dealt c ∗ plain m c)) fun c _ => start_intro m κ c)
  isplitr
  · ihave HB := (Entails.of_eq (hall fun g => cellInv ER (rd (gath m)) (κ g) g)) $$ Hinv
    ihave HR := (Entails.of_eq (hbar fun g => reached ER g 0)) $$ Hr
    icases HB with ⟨HB, HI⟩
    iapply (hrec κ)
    isplitl [HB]; · iexact HB
    isplitl [HR] <;> iassumption
  rw [bigSep_sep']
  isplitr [HP]
  · unfold dealt
    rw [bigSep_sep', bigSep_sep', ← hbar fun g => atPos ER g 0 ∅ 0, ← hown fun g => openTok ER g, ← tokens_eq]
    isplitl [Hat]; · iexact Hat
    isplitl [Hopen] <;> iassumption
  · iexact HP

/-! ## The run -/

theorem only_bar : ∀ sm : SemLoc sig, sm.isScoped .tc = false → sm = .reg barS := by decide

set_option backward.isDefEq.respectTransparency.types false in
/-- THE RUN: from any memory with every counter at zero, every fair execution of @main on the four devices ends, with the
    arguments unchanged, on every device the result computed of the gathered slots, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v2) = outVal (colOf m c) (gath m)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := start m) (Tₙ := final m)
    (hch := ⟨fun c => .rfl, fun c => region_pre m c, fun c => region_post m c⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_v2) = outVal (colOf m c) (gath m)) ∧ s.sem (barCell c) = 0)
    (hfin := fun c s' => by
      have e (b : DevRef τ sig) (h : b ≠ Proc.devRef .tc main_v2) (h' : b ≠ Proc.devRef .tc main_v1) : V₂ m c b = m (c, b) :=
        (V₂_of_ne m c h).trans (V₁_of_ne m c h')
      dsimp only [final]
      rw [bufs_all, e _ (by decide) (by decide), e (Proc.devRef .tc main_arg1) (by decide) (by decide),
        e (Proc.devRef .tc main_arg2) (by decide) (by decide), e (Proc.devRef .tc main_arg3) (by decide) (by decide), V₂_out]
      iintro ⟨⟨⟨H0, H1, H2, H3, H4, -⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => (h c).1, sem_eq_zero hs fun c sm hsm => by
        obtain rfl := only_bar sm hsm
        exact (h c).2⟩)

end Cert.KernelIdeal.Moe

end
-- ==== Proof.Frames.lean ====
/- The claims that speak of one program at a time: each program runs to its end on every device, leaves its arguments as
   they were, and brings every semaphore counter back to zero. The kernel's run (Deal.lean, `run_main`) holds at any
   float values, so the three readings of the kernel are three instances of it. -/
module

public import proofs.«01_k».proof.Defs
public import proofs.«01_k».proof.Proof.Deal
public import proofs.«01_k».proof.Proof.Gen.Kernel
public import proofs.«01_k».proof.Proof.Gen.ReferenceIdeal.Run

@[expose] public section

noncomputable section

namespace Cert.KernelIdeal.Moe

open Idealize.ShloMosaic Idealize.SL.Sem

/-- The shape relations the precondition's text takes on the kernel's blocks. -/
theorem preFacts : Cert.Pre_routed_KernelIdeal.Facts := ⟨by decide, by decide, by decide⟩

/-- The shape relations the precondition's text takes on the whole arrays. -/
theorem preFactsRef : Cert.Pre_routed_ReferenceIdeal.Facts := ⟨by decide, by decide, by decide⟩

/-- At any float values the kernel ends on every device, keeps its arguments and clears its counters. -/
theorem keeps {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono
    (fun _ h => ⟨fun c => ⟨(h.1 c).1, (h.1 c).2.1, (h.1 c).2.2.1, (h.1 c).2.2.2.1⟩, h.2⟩) (run_main m ρ)

/-- The kernel as it is given and its reading over the extended reals are printed from one module, so with the same
    floats they are one program; what is claimed of the first is thus word for word the claim below of the second. -/
theorem same_claim : Cert.quiescent_Kernel = (∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0)) := by
  sl_kernel_rfl

/-- The kernel as it is given, with machine floats. -/
theorem frame_kernel : Cert.quiescent_Kernel := same_claim.mpr fun m ρ _ => keeps (F := Bits) m ρ

/-- The kernel read over the extended reals. -/
theorem frame_kernelIdeal : Cert.quiescent_KernelIdeal := fun m ρ _ => keeps (F := Ideal) m ρ

/-- The same where the routing indices name experts: a case of the one before. -/
theorem frame_kernelIdeal_routed :
    Cert.quiescent_KernelIdeal_pre_routed_KernelIdeal (hPre_routed_KernelIdeal := preFacts) :=
  fun m ρ _ => frame_kernelIdeal m ρ trivial

/-- The reference is a straight line of host operations and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same where the routing indices name experts. -/
theorem frame_reference_routed :
    Cert.quiescent_ReferenceIdeal_pre_routed_ReferenceIdeal (hPre_routed_ReferenceIdeal := preFactsRef) :=
  fun m ρ _ => frame_reference m ρ trivial

end Cert.KernelIdeal.Moe

end
-- ==== Proof.Count.lean ====
/-
  Counting and picking, apart from any program: how many earlier tokens share a token's expert, and a sum of products with
  a zero-or-one factor that is one at a single place.
-/
module

public import Idealize.ShloMosaic.Lib.Pointwise
public import Idealize.ShloMosaic.Lib.WordCmp
public import Idealize.ShloMosaic.Lib.WordArith
public import Idealize.ShloMosaic.Lib.IdealHost

@[expose] public section

noncomputable section

namespace Cert.KernelIdeal.Moe

open Idealize.ShloMosaic
open scoped BigOperators

/-! ## Ranks -/

/-- How many tokens before `t` go where `t` goes. -/
def rank (e : Fin 512 → BitVec 32) (t : Fin 512) : ℕ := (Finset.univ.filter fun u => e t = e u ∧ u < t).card

/-- A token's rank is at most its position. -/
theorem rank_lt (e : Fin 512 → BitVec 32) (t : Fin 512) : rank e t < 512 := by
  refine lt_of_lt_of_le (Finset.card_lt_card (t := Finset.univ) ⟨Finset.subset_univ _, fun h => ?_⟩) (by simp)
  exact lt_irrefl t (Finset.mem_filter.1 (h (Finset.mem_univ t))).2.2

/-- Of two tokens of one expert the later has the greater rank. -/
theorem rank_strict {e : Fin 512 → BitVec 32} {u t : Fin 512} (h : e u = e t) (hut : u < t) : rank e u < rank e t := by
  refine Finset.card_lt_card ⟨fun v hv => ?_, fun hs => ?_⟩
  · obtain ⟨h1, h2⟩ := (Finset.mem_filter.1 hv).2
    exact Finset.mem_filter.2 ⟨Finset.mem_univ _, h.symm.trans h1, h2.trans hut⟩
  · exact lt_irrefl u (Finset.mem_filter.1 (hs (Finset.mem_filter.2 ⟨Finset.mem_univ u, h.symm, hut⟩))).2.2

/-- Expert and rank together tell a token. -/
theorem rank_inj {e : Fin 512 → BitVec 32} {u t : Fin 512} (h : e u = e t) (hr : rank e u = rank e t) : u = t := by
  rcases lt_trichotomy u t with hlt | heq | hgt
  · exact absurd hr (rank_strict h hlt).ne
  · exact heq
  · exact absurd hr (rank_strict h.symm hgt).ne'

/-! ## One bit as a number -/

/-- A comparison's bit widened and read as an extended real is one where it holds and zero elsewhere. -/
theorem bit_coe (b : BitVec 1) : (((b.setWidth 32).toInt : ℝ) : EReal) = if b = 1#1 then 1 else 0 := by
  by_cases h : b = 1#1
  · subst h; rw [if_pos rfl, show ((1#1 : BitVec 1).setWidth 32).toInt = 1 by decide]; norm_num
  · rw [if_neg h, ValueIdx.eq_zero_of_ne_one h, show ((0#1 : BitVec 1).setWidth 32).toInt = 0 by decide]; norm_num

/-- A product with a one-or-zero factor on the left. -/
theorem bit_mul (p : Prop) [Decidable p] (x : EReal) : (if p then 1 else 0) * x = if p then x else 0 := by
  rw [ite_mul, one_mul, zero_mul]

/-- A product with a one-or-zero factor on the right. -/
theorem mul_bit (p : Prop) [Decidable p] (x : EReal) : x * (if p then 1 else 0) = if p then x else 0 := by
  rw [mul_ite, mul_one, mul_zero]

/-! ## Sums -/

/-- A sum over positions of which one alone counts is the term there: infinite terms elsewhere do no harm. -/
theorem sum_pick {n : ℕ} (p : Fin n → Prop) [DecidablePred p] (f : Fin n → EReal) (a : Fin n) (h : ∀ i, p i ↔ i = a) :
    ∑ i, (if p i then f i else 0) = f a := by
  rw [Finset.sum_eq_single a (fun i _ hi => if_neg fun hp => hi ((h i).1 hp)) (fun ha => absurd (Finset.mem_univ a) ha)]
  exact if_pos ((h a).2 rfl)

/-- A sum over positions of which none counts is zero. -/
theorem sum_none {n : ℕ} (p : Fin n → Prop) [DecidablePred p] (f : Fin n → EReal) (h : ∀ i, ¬ p i) :
    ∑ i, (if p i then f i else 0) = 0 :=
  Finset.sum_eq_zero fun i _ => if_neg (h i)

/-- A sum of ones over the positions that count is their number. -/
theorem sum_ones {n : ℕ} (p : Fin n → Prop) [DecidablePred p] :
    ∑ i, (if p i then (1 : EReal) else 0) = (((Finset.univ.filter p).card : ℝ) : EReal) := by
  rw [Finset.sum_boole]; norm_cast

/-- A routing word below eight, as the number of an expert. -/
def expert (w : BitVec 32) : Fin 8 := ⟨min w.toInt.toNat (8 - 1), by omega⟩

/-- A word that names an expert is that expert's number. -/
theorem expert_eq {w : BitVec 32} (h : w.toNat < 8) : BitVec.ofNat 32 (expert w).val = w := by
  have hw : w.toInt = w.toNat := WordCmp.toInt_eq_toNat_of_lt_half (by omega)
  apply BitVec.eq_of_toNat_eq
  rw [BitVec.toNat_ofNat]
  show min w.toInt.toNat 7 % 2 ^ 32 = w.toNat
  omega

/-- The expert that a word names has the word's number. -/
theorem expert_val {w : BitVec 32} (h : w.toNat < 8) : (expert w).val = w.toNat := by
  have := congrArg BitVec.toNat (expert_eq h)
  rw [BitVec.toNat_ofNat] at this
  have := (expert w).isLt
  omega

/-- Picking the coefficient of the named expert out of a sum over the eight. -/
theorem sum_expert {w : BitVec 32} (h : w.toNat < 8) (f : Fin 8 → EReal) :
    ∑ k : Fin 8, (if w = BitVec.ofNat 32 k.val then f k else 0) = f (expert w) :=
  sum_pick _ f _ fun k => by
    constructor
    · intro hk
      apply Fin.ext
      rw [expert_val h, hk, BitVec.toNat_ofNat]
      have := k.isLt
      omega
    · rintro rfl
      exact (expert_eq h).symm

/-- What both programs compute at a token and an output column: the token times its expert's weights if fewer than
    fifty-one tokens of the same expert come before it, and zero otherwise. -/
def moe (x : (⟨2, ![512, 256]⟩ : Shape).Idx → EReal) (col : (⟨2, ![512, 1]⟩ : Shape).Idx → BitVec 32)
    (w : (⟨3, ![8, 256, 512]⟩ : Shape).Idx → EReal) (t o : Fin 512) : EReal :=
  if rank (fun u => col (ix2 u 0)) t < 51 then
    ∑ k : Fin 256, x (ix2 t k) * w (ix3 (expert (col (ix2 t 0))) k o)
  else 0

end Cert.KernelIdeal.Moe

end
-- ==== Proof.KernelValue.lean ====
/-
  The kernel's result, read at a token and an output column: every device's slot holds, in the row of a token that it
  serves, the token's product with its expert's weights, and the last product picks that row.
-/
module

public import proofs.«01_k».proof.Proof.Count
public import proofs.«01_k».proof.Proof.Steps

@[expose] public section

noncomputable section

namespace Cert.KernelIdeal.Moe

open Idealize.ShloMosaic Cert.KernelIdeal Cert.KernelIdeal.Gen
open scoped BigOperators

/-! ## Numbers -/

/-- The capacity's pattern is the number fifty-one. -/
theorem ofBits_capacity : Ideal.ofBits .f32 0x424C0000#32 = ((51 : ℝ) : EReal) := by
  simp [Ideal.ofBits, Ideal.ieee, -EReal.coe_mul]; norm_num

/-- A comparison's bit widened and converted is one where it holds and zero elsewhere. -/
theorem sitofp_bit (b : BitVec 1) :
    FloatOps.sitofp (F := Ideal) FTy.f32 (b.setWidth 32) = if b = 1#1 then (1 : EReal) else 0 := bit_coe b

/-- A small natural's word converted is the natural. -/
theorem sitofp_nat (n : ℕ) (h : n < 2 ^ 31) : FloatOps.sitofp (F := Ideal) FTy.f32 (BitVec.ofNat 32 n) = ((n : ℝ) : EReal) := by
  show (((BitVec.ofNat 32 n).toInt : ℝ) : EReal) = _
  rw [WordArith.toInt_ofNat_small n h, Int.cast_natCast]

/-- A natural read as a number and converted back to a word is its word. -/
theorem fptosi_nat (n : ℕ) (h : n < 2 ^ 31 - 1) : FloatOps.fptosi (F := Ideal) (φ := .f32) 32 ((n : ℝ) : EReal) = BitVec.ofNat 32 n := by
  show Ideal.fptosi 32 ((n : ℝ) : EReal) = _
  rw [Ideal.fptosi, Ideal.toIntClamped_coe, if_pos (Nat.cast_nonneg n), Int.floor_natCast, ← BitVec.ofInt_natCast]
  congr 1
  norm_num
  omega

/-- The sum over the experts of what earlier tokens a given expert has, taken where it is the token's own, is the rank. -/
theorem sum_rank (e : Fin 512 → BitVec 32) (t : Fin 512) (h : (e t).toNat < 8) :
    ∑ k : Fin 8, (if e t = BitVec.ofNat 32 k.val then
        ∑ u : Fin 512, (if e u = BitVec.ofNat 32 k.val ∧ u < t then (1 : EReal) else 0) else 0)
      = ((rank e t : ℝ) : EReal) := by
  rw [sum_expert h, sum_ones, expert_eq h]
  unfold rank
  simp only [eq_comm]

/-- The rank as the sender computes it. -/
theorem pay2_apply (row : Vec Ideal S1x512 .i32) (t : Fin 512) (h : (row (ix2 0 t)).toNat < 8) :
    k0_pay2 (F := Ideal) row (ix2 0 t) = ((rank (fun u => row (ix2 0 u)) t : ℝ) : EReal) := by
  pointwise [k0_pay2, k0_pay1]
  rw [← sum_rank (fun u => row (ix2 0 u)) t h]
  refine Finset.sum_congr rfl fun k _ => ?_
  rw [sitofp_bit, mul_bit]
  refine if_congr (by rw [WordCmp.cmpi_eq_eq, WordArith.ofBool_eq_one_iff, decide_eq_true_iff]) ?_ rfl
  refine Finset.sum_congr rfl fun u _ => ?_
  rw [sitofp_bit, sitofp_bit, bit_mul, ← ite_and]
  refine if_congr (and_congr ?_ ?_) rfl rfl
  · rw [WordCmp.cmpi_eq_eq, WordArith.ofBool_eq_one_iff, decide_eq_true_iff]
  · rw [WordCmp.cmpi_sgt_ofNat_eq_one_iff (by omega) (by omega)]; rfl

/-- The rank as the receiver computes it. -/
theorem pay9_apply (col : Vec Ideal S512x1 .i32) (t : Fin 512) (h : (col (ix2 t 0)).toNat < 8) :
    k0_pay9 (F := Ideal) (iota .tc S512x512 32 [0] iota_S512x512_d0_w32) (iota .tc S512x512 32 [1] iota_S512x512_d1_w32) col (ix2 t 0)
      = BitVec.ofNat 32 (rank (fun u => col (ix2 u 0)) t) := by
  refine Eq.trans ?_ (fptosi_nat _ (by have := rank_lt (fun u => col (ix2 u 0)) t; omega))
  pointwise [k0_pay9, k0_pay8]
  refine congrArg (FloatOps.fptosi (F := Ideal) (φ := .f32) 32) ?_
  rw [← sum_rank (fun u => col (ix2 u 0)) t h]
  refine Finset.sum_congr rfl fun k _ => ?_
  rw [sitofp_bit, mul_bit]
  refine if_congr (by rw [WordCmp.cmpi_eq_eq, WordArith.ofBool_eq_one_iff, decide_eq_true_iff]) ?_ rfl
  refine Finset.sum_congr rfl fun u _ => ?_
  rw [sitofp_bit, sitofp_bit, bit_mul, ← ite_and]
  refine if_congr (and_comm.trans (and_congr ?_ ?_)) rfl rfl
  · rw [WordCmp.cmpi_eq_eq, WordArith.ofBool_eq_one_iff, decide_eq_true_iff]
  · rw [WordCmp.cmpi_slt_ofNat_eq_one_iff (by omega) (by omega)]; rfl

/-! ## The sender -/

/-- A select on a bit, against zero. -/
theorem select_zero_else (c : BitVec 1) (x : EReal) : Scalar.select c x 0 = if c = 1#1 then x else 0 := rfl

/-- Two bits are both one where both are. -/
theorem andi_eq_one (a b : BitVec 1) : IntOp.andi a b = 1#1 ↔ a = 1#1 ∧ b = 1#1 := by
  revert a b; decide

/-- Whether a row of the slot is one of the second expert's, as a word. -/
theorem half_word (s : Fin 112) :
    (IntOp.cmpi .sge (BitVec.ofNat 32 s.val) 51#32).setWidth 32 = BitVec.ofNat 32 (if 51 ≤ s.val then 1 else 0) := by
  rw [WordCmp.cmpi_sge_ofNat (by omega) (by omega)]
  by_cases h : 51 ≤ s.val
  · rw [if_pos h, decide_eq_true h]; rfl
  · rw [if_neg h, decide_eq_false h]; rfl

/-- The row of the token among its own expert's, as a word. -/
theorem within_word (s : Fin 112) :
    IntOp.subi (BitVec.ofNat 32 s.val) (IntOp.muli 51#32 (BitVec.ofNat 32 (if 51 ≤ s.val then 1 else 0)))
      = BitVec.ofNat 32 (s.val - 51 * if 51 ≤ s.val then 1 else 0) := by
  revert s; decide

/-- The tokens that a device collects for its two experts: in row `51 b + r` the token of rank `r` of the expert `b`. -/
theorem pay3_apply (d : Fin 4) (row : Vec Ideal S1x512 .i32) (x : Vec Ideal S512x256 .bf16) (s : Fin 112) (k : Fin 256)
    (h : ∀ t, (row (ix2 0 t)).toNat < 8) (t : Fin 512) (b : Fin 2)
    (he : row (ix2 0 t) = BitVec.ofNat 32 (2 * d.val + b.val))
    (hr : rank (fun u => row (ix2 0 u)) t < 51) (hs : s.val = 51 * b.val + rank (fun u => row (ix2 0 u)) t) :
    k0_pay3 (F := Ideal) (BitVec.ofNat 32 d.val) (k0_pay1 (F := Ideal) row) (k0_pay2 row) x (ix2 s k) = x (ix2 t k) := by
  have hb : (if 51 ≤ s.val then 1 else 0) = b.val := by
    have := b.isLt
    split_ifs <;> omega
  pointwise [k0_pay3, k0_pay1]
  refine (Finset.sum_congr rfl fun u _ => select_zero_else _ _).trans (sum_pick _ (fun u => x (ix2 u k)) t fun u => ?_)
  simp only [andi_eq_one]
  rw [half_word, within_word, hb, pay2_apply row u (h u), ofBits_capacity, sitofp_nat _ (by omega),
    WordCmp.cmpi_slt_ofNat_eq_one_iff (by omega) (by omega), WordCmp.cmpi_eq_eq, WordArith.ofBool_eq_one_iff,
    WordArith.ofBool_eq_one_iff, WordArith.ofBool_eq_one_iff, decide_eq_true_iff, decide_eq_true_iff, decide_eq_true_iff,
    EReal.coe_lt_coe_iff, EReal.coe_eq_coe_iff, Nat.cast_inj]
  have hw : IntOp.addi (Scalar.muli (BitVec.ofNat 32 d.val) 2#32) (BitVec.ofNat 32 b.val) = row (ix2 0 t) := by
    rw [he]; clear he hs hr hb; revert d b; decide
  rw [hw]
  constructor
  · rintro ⟨⟨⟨_, _⟩, h1⟩, h2⟩
    exact rank_inj (e := fun u => row (ix2 0 u)) h1 (by omega)
  · rintro rfl
    exact ⟨⟨⟨by have := b.isLt; omega, by exact_mod_cast hr⟩, rfl⟩, by omega⟩

/-- The weights of a device's first expert. -/
theorem expertW0_apply (w : Vec Ideal S2x256x512 .bf16) (k : Fin 256) (o : Fin 512) :
    expertW0 (F := Ideal) w (ix3 0 k o) = w (ix3 0 k o) := by
  unfold expertW0
  show w _ = w _
  congr 1
  funext a
  match a with
  | ⟨0, _⟩ => rfl
  | ⟨1, _⟩ => exact Fin.ext (by simp [Rect.unit])
  | ⟨2, _⟩ => exact Fin.ext (by simp [Rect.unit])

/-- The weights of a device's second expert. -/
theorem expertW1_apply (w : Vec Ideal S2x256x512 .bf16) (k : Fin 256) (o : Fin 512) :
    expertW1 (F := Ideal) w (ix3 0 k o) = w (ix3 1 k o) := by
  unfold expertW1
  show w _ = w _
  congr 1
  funext a
  match a with
  | ⟨0, _⟩ => rfl
  | ⟨1, _⟩ => exact Fin.ext (by simp [Rect.unit])
  | ⟨2, _⟩ => exact Fin.ext (by simp [Rect.unit])

/-- The device's own number, as the kernel computes it. -/
theorem self_word (c : Dev nD) : Scalar.remsi (Scalar.divsi c.word 1#32) 4#32 = BitVec.ofNat 32 c.val := by
  revert c; decide

/-- A slot's row for a token that its device serves: the token times its expert's weights. -/
theorem slotVal_apply (c : Dev nD) (row : Vec Ideal S1x512 .i32) (x : Vec Ideal S512x256 .bf16) (w : Vec Ideal S2x256x512 .bf16)
    (s : Fin 112) (o : Fin 512) (h : ∀ t, (row (ix2 0 t)).toNat < 8) (t : Fin 512) (b : Fin 2)
    (he : row (ix2 0 t) = BitVec.ofNat 32 (2 * c.val + b.val))
    (hr : rank (fun u => row (ix2 0 u)) t < 51) (hs : s.val = 51 * b.val + rank (fun u => row (ix2 0 u)) t) :
    slotVal (F := Ideal) c x row w (ix3 0 s o) = ∑ k : Fin 256, x (ix2 t k) * w (ix3 b k o) := by
  have hp := fun k => pay3_apply c row x s k h t b he hr hs
  unfold slotVal
  rw [self_word]
  pointwise [k0_pay7, k0_pay6, k0_pay4, k0_pay5]
  rw [WordCmp.cmpi_slt_ofNat (by omega) (by omega), WordCmp.cmpi_slt_ofNat (by omega) (by omega), WordCmp.select_decide,
    WordCmp.select_decide]
  simp only [hp, expertW0_apply, expertW1_apply]
  match b, hs with
  | 0, hs => rw [if_pos (by simp at hs; omega)]
  | 1, hs => rw [if_neg (by simp at hs; omega), if_pos (by simp at hs; omega)]

/-! ## The receiver -/

/-- Where a token's row lies among the gathered slots, as the receiver computes it, but for its rank. -/
theorem place_word (w : BitVec 32) (h : w.toNat < 8) :
    IntOp.addi
        (IntOp.muli
          (Scalar.select
            (IntOp.andi
              (IntOp.cmpi .ne
                (IntOp.subi ((IntOp.cmpi .sgt w 0#32).setWidth 32) ((IntOp.cmpi .slt w 0#32).setWidth 32))
                (Scalar.subi (Scalar.extui (Scalar.cmpi .sgt 2#32 0#32)) (Scalar.extui (Scalar.cmpi .slt 2#32 0#32))))
              (IntOp.cmpi .ne (IntOp.remsi ArithUnit.vector w 2#32) 0#32))
            (IntOp.subi (IntOp.divsi ArithUnit.vector w 2#32) 1#32) (IntOp.divsi ArithUnit.vector w 2#32))
          112#32)
        (IntOp.muli (IntOp.remsi ArithUnit.vector w 2#32) 51#32)
      = BitVec.ofNat 32 (w.toNat / 2 * 112 + w.toNat % 2 * 51) := by
  obtain ⟨n, rfl⟩ : ∃ n : Fin 8, w = BitVec.ofNat 32 n.val := ⟨⟨w.toNat, h⟩, by simp⟩
  revert n; decide

/-- What a device returns at a token and a column: the token's row of the gathered slots, or zero past the capacity. -/
theorem outVal_apply (col : Vec Ideal S512x1 .i32) (G : Vec Ideal S4x112x512 .bf16) (t o : Fin 512)
    (h : (col (ix2 t 0)).toNat < 8) (d : Fin 4) (s : Fin 112) (hd : d.val = (col (ix2 t 0)).toNat / 2)
    (hs : rank (fun u => col (ix2 u 0)) t < 51 → s.val = 51 * ((col (ix2 t 0)).toNat % 2) + rank (fun u => col (ix2 u 0)) t) :
    outVal (F := Ideal) col G (ix2 t o) = if rank (fun u => col (ix2 u 0)) t < 51 then G (ix3 d s o) else 0 := by
  have h9 := pay9_apply col t h
  have hrk := rank_lt (fun u => col (ix2 u 0)) t
  unfold outVal
  pointwise [k0_pay15, k0_pay14, k0_pay13, k0_pay12, k0_pay11, k0_pay10, k0_pay8]
  rw [h9, place_word _ h, WordCmp.cmpi_slt_ofNat (by omega) (by omega)]
  by_cases hr : rank (fun u => col (ix2 u 0)) t < 51
  · rw [if_pos hr]
    have hsv := hs hr
    refine (Finset.sum_congr rfl fun g _ => select_zero_else _ _).trans
      ((sum_pick _ (fun g : Fin 448 => G (ix3 ⟨g.val / 112, by omega⟩ ⟨g.val % 112, by omega⟩ o))
        ⟨d.val * 112 + s.val, by omega⟩ fun g => ?_).trans ?_)
    · rw [andi_eq_one, WordArith.ofBool_eq_one_iff, decide_eq_true_iff, WordCmp.addi_ofNat,
        WordCmp.cmpi_eq_ofNat_eq_one_iff (by omega) (by omega), Fin.ext_iff]
      constructor
      · rintro ⟨_, h2⟩
        show g.val = d.val * 112 + s.val
        omega
      · intro h2
        have h2 : g.val = d.val * 112 + s.val := h2
        exact ⟨hr, by omega⟩
    · exact congrArg G (by
        congr 1
        · exact Fin.ext (by show (d.val * 112 + s.val) / 112 = d.val; omega)
        · exact Fin.ext (by show (d.val * 112 + s.val) % 112 = s.val; omega))
  · rw [if_neg hr]
    refine (Finset.sum_congr rfl fun g _ => select_zero_else _ _).trans (sum_none _ _ fun g => ?_)
    rw [andi_eq_one, WordArith.ofBool_eq_one_iff, decide_eq_true_iff]
    exact fun h2 => hr h2.1

end Cert.KernelIdeal.Moe

end
-- ==== Proof.RefValue.lean ====
/-
  The reference's result, read at a token and an output column, is the routed product of `moe`.
-/
module

public import proofs.«01_k».proof.Proof.Count
public import proofs.«01_k».proof.Proof.Gen.ReferenceIdeal.Run
public import Idealize.ShloMosaic.Lib.IndicatorCount
public import Idealize.ShloMosaic.Lib.DynamicIndex

@[expose] public section

noncomputable section

namespace Cert.ReferenceIdeal.Moe

open Idealize.ShloMosaic Cert.ReferenceIdeal Cert.ReferenceIdeal.Gen Cert.ReferenceIdeal.Facts
open Cert.KernelIdeal.Moe
open scoped BigOperators

/-- The tokens' experts as the reference looks them up: a negative word counts from the end. -/
def wrapped (col : IVec S512x1 32) : IVec S512x1 32 :=
  broadcastInDim S512x1 ![0] bcast_S512_S512x1_0
    (select (cmpi .slt (shapeCast S512 col shapeCasts_S512x1_S512) (broadcastInDim S512 ![] bcast_S_S512 (constantI S_ 32 0#32)))
      (addi (shapeCast S512 col shapeCasts_S512x1_S512) (broadcastInDim S512 ![] bcast_S_S512 (constantI S_ 32 8#32)))
      (shapeCast S512 col shapeCasts_S512x1_S512))

/-- How many earlier tokens share each token's expert, as the reference counts them. -/
def counts (col : IVec S512x1 32) : IVec S512 32 :=
  Host.reduce IntOp.addi
    (extui 32
      (andi
        (cmpi .eq
          (broadcastInDim S512x512 ![0, 1] bcast_S512x1_S512x512_0_1
            (broadcastInDim S512x1 ![0] bcast_S512_S512x1_0 (shapeCast S512 col shapeCasts_S512x1_S512)))
          (broadcastInDim S512x512 ![0, 1] bcast_S1x512_S512x512_0_1
            (broadcastInDim S1x512 ![1] bcast_S512_S1x512_1 (shapeCast S512 col shapeCasts_S512x1_S512))))
        (cmpi .slt
          (broadcastInDim S512x512 ![0, 1] bcast_S1x512_S512x512_0_1
            (broadcastInDim S1x512 ![1] bcast_S512_S1x512_1 (iotaInDim S512 32 0)))
          (broadcastInDim S512x512 ![0, 1] bcast_S512x1_S512x512_0_1
            (broadcastInDim S512x1 ![0] bcast_S512_S512x1_0 (iotaInDim S512 32 0)))))
      natLt_1_32)
    (constantI S_ 32 0#32) reducesTo_S512x512_S512_d1 h_S_

/-- The reference's result from its arguments. -/
def refVal (x : FVec Ideal S512x256 .bf16) (col : IVec S512x1 32) (w : FVec Ideal S8x256x512 .bf16) : FVec Ideal S512x512 .bf16 :=
  truncf .bf16
    (select
      (broadcastInDim S512x512 ![0, 1] bcast_S512x1_S512x512_0_1
        (broadcastInDim S512x1 ![0] bcast_S512_S512x1_0
          (cmpi .slt (counts col) (broadcastInDim S512 ![] bcast_S_S512 (constantI S_ 32 51#32)))))
      (Host.dotGeneral dot_S512x256_S512x256x512_S512x512_1_1_n_2_0_0 none (extf .f32 x bitsLt_bf16_f32)
        (Host.gather gather_S8x256x512_S512x1_S512x256x512_12_0_n_n_0_1_1256512 (extf .f32 w bitsLt_bf16_f32) (wrapped col)))
      (broadcastInDim S512x512 ![] bcast_S_S512x512 (id (constant S_ .f32 0x00000000#32)))) bitsLt_bf16_f32

/-- The reference's count is the rank. -/
theorem counts_apply (col : IVec S512x1 32) (t : Fin 512) :
    counts col (ix1 t) = BitVec.ofNat 32 (rank (fun u => col (ix2 u 0)) t) := by
  pointwise [counts]
  rw [IndicatorCount.fold_addi_setWidth_eq_card]
  congr 2
  ext u
  simp only [Finset.mem_filter, Finset.mem_univ, true_and]
  rw [WordCmp.cmpi_eq_eq, WordCmp.cmpi_slt_ofNat (by omega) (by omega), WordArith.andi_ofBool, WordArith.ofBool_eq_one_iff, Bool.and_eq_true,
    decide_eq_true_iff, decide_eq_true_iff]
  rfl

/-- A word that is not negative is looked up as it is. -/
theorem wrapped_apply (col : IVec S512x1 32) (t : Fin 512) (h : (col (ix2 t 0)).toNat < 8) :
    wrapped col (ix2 t 0) = col (ix2 t 0) := by
  pointwise [wrapped]
  rw [WordCmp.cmpi_slt_zero, WordCmp.select_decide, if_neg (by omega)]

/-- The weights that the reference looks up for a token: those of the expert its word names. -/
theorem gather_apply (w : S8x256x512.Idx → EReal) (idx : IVec S512x1 32) (t : Fin 512) (k : Fin 256) (o : Fin 512) :
    Host.gather gather_S8x256x512_S512x1_S512x256x512_12_0_n_n_0_1_1256512 w idx (ix3 t k o)
      = w (ix3 (expert (idx (ix2 t 0))) k o) := by
  have h0 : GatherDims.start gather_S8x256x512_S512x1_S512x256x512_12_0_n_n_0_1_1256512 (ix3 t k o) idx (0 : Fin 3) = min (idx (ix2 t 0)).toInt.toNat 7 := by
    unfold GatherDims.start
    rw [dif_pos (show (0 : Fin 3) ∈ gather_S8x256x512_S512x1_S512x256x512_12_0_n_n_0_1_1256512.startIndexMap from List.mem_singleton.mpr rfl)]
    have hs : GatherDims.siIdx gather_S8x256x512_S512x1_S512x256x512_12_0_n_n_0_1_1256512 (ix3 t k o)
        ⟨List.idxOf (0 : Fin 3) gather_S8x256x512_S512x1_S512x256x512_12_0_n_n_0_1_1256512.startIndexMap, List.idxOf_lt_length_iff.2 (List.mem_singleton.mpr rfl)⟩ = ix2 t 0 := by
      funext b
      refine Fin.ext ?_
      match b with
      | ⟨0, _⟩ => rfl
      | ⟨1, _⟩ => rfl
    exact congrArg (fun i => min (idx i).toInt.toNat 7) hs
  have h1 : GatherDims.start gather_S8x256x512_S512x1_S512x256x512_12_0_n_n_0_1_1256512 (ix3 t k o) idx (1 : Fin 3) = 0 :=
    dif_neg fun h => absurd (List.mem_singleton.mp h) (by decide)
  have h2 : GatherDims.start gather_S8x256x512_S512x1_S512x256x512_12_0_n_n_0_1_1256512 (ix3 t k o) idx (2 : Fin 3) = 0 :=
    dif_neg fun h => absurd (List.mem_singleton.mp h) (by decide)
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    exact h0
  | ⟨1, _⟩ => exact (congrArg (· + _) h1).trans (Nat.zero_add _)
  | ⟨2, _⟩ => exact (congrArg (· + _) h2).trans (Nat.zero_add _)

/-- The reference's result at a token and a column. -/
theorem refVal_apply (x : FVec Ideal S512x256 .bf16) (col : IVec S512x1 32) (w : FVec Ideal S8x256x512 .bf16) (t o : Fin 512)
    (h : (col (ix2 t 0)).toNat < 8) : refVal x col w (ix2 t o) = moe x col w t o := by
  pointwise [refVal]
  rw [counts_apply, WordCmp.cmpi_slt_ofNat (by have := rank_lt (fun u => col (ix2 u 0)) t; omega) (by omega), WordCmp.select_decide]
  unfold moe
  refine if_congr Iff.rfl (Finset.sum_congr rfl fun k _ => ?_) Ideal.ofBits_zero_f32
  rw [gather_apply, wrapped_apply col t h]
  rfl

end Cert.ReferenceIdeal.Moe

end
-- ==== Proof.Value.lean ====
/-
  The kernel's result is the reference's, over the extended reals, where every token's word names one of the eight experts.
-/
module

public import proofs.«01_k».proof.Proof.Frames
public import proofs.«01_k».proof.Proof.KernelValue
public import proofs.«01_k».proof.Proof.RefValue
public import Idealize.ShloMosaic.Lib.ReduceAll

@[expose] public section

noncomputable section

namespace Cert.KernelIdeal.Moe

open Idealize.ShloMosaic Idealize.ShloMosaic.TcCoe Idealize.SL.Sem
open Cert.KernelIdeal Cert.KernelIdeal.Gen
open scoped BigOperators

/-! ## What the kernel reads -/

/-- The routing row is the routing column laid flat. -/
theorem rowOf_apply (m : (ℓ : Loc nD τ sig) → Buf (Elt Ideal) ℓ) (c : Dev nD) (t : Fin 512) :
    rowOf m c (ix2 0 t) = colOf m c (ix2 t 0) := by
  have h : rowOf m c = shapeCast S1x512 (colOf m c) shapeCasts_S512x1_S1x512 := by
    unfold rowOf colOf V₁ hostOps0
    after_results_simp <;> rfl
  rw [h]
  pointwise

/-- A device's slot of the gathered buffer. -/
theorem gath_apply (m : (ℓ : Loc nD τ sig) → Buf (Elt Ideal) ℓ) (d : Fin 4) (s : Fin 112) (o : Fin 512) :
    gath m (ix3 d s o) = slotVal (F := Ideal) d (xOf m d) (rowOf m d) (wOf m d) (ix3 0 s o) := by
  show slotVal _ _ _ _ (inSlot (ix3 d s o)) = _
  refine congrArg _ ?_
  funext a
  match a with
  | ⟨0, _⟩ => rfl
  | ⟨1, _⟩ => rfl
  | ⟨2, _⟩ => rfl

/-- A device's expert among all eight. -/
theorem expert_block (W : (⟨3, ![8, 256, 512]⟩ : Shape).Idx → EReal) (c : Fin 4) (b : Fin 2) (k : Fin 256) (o : Fin 512) (e : Fin 8)
    (he : e.val = 2 * c.val + b.val) :
    Layout.block ⟨3, ![2, 256, 512]⟩ ⟨3, ![8, 256, 512]⟩ 0 4 c W (by decide) (ix3 b k o) = W (ix3 e k o) := by
  rw [Layout.block_apply]
  congr 1
  funext a
  refine Fin.ext ?_
  match a with
  | ⟨0, _⟩ => show c.val * 2 + b.val = e.val; omega
  | ⟨1, _⟩ => rfl
  | ⟨2, _⟩ => rfl

/-- Where the precondition holds, every word of the routing column is the number of an expert. -/
theorem routed_lt (m : (ℓ : Loc nD τ sig) → Buf (Elt Ideal) ℓ)
    (hm : Cert.Pre_KernelIdeal_routed_KernelIdeal (hPre_routed_KernelIdeal := preFacts) m) (c : Dev nD) (t : Fin 512) :
    (m ((c.tc : Thread nD τ).loc main_arg2) (ix2 t 0) : BitVec 32).toNat < 8 := by
  have : Subsingleton Cert.Pre_routed_KernelIdeal.S_.Idx := ⟨fun a b => funext fun i => i.elim0⟩
  have h := congrFun (hm c) (fun i => i.elim0)
  have h := Host.reduce_andi_all _ _ _ _ _ h (ix2 t 0)
  have h : IntOp.andi (IntOp.cmpi .sge (m ((c.tc : Thread nD τ).loc main_arg2) (ix2 t 0) : BitVec 32) 0#32)
      (IntOp.cmpi .slt (m ((c.tc : Thread nD τ).loc main_arg2) (ix2 t 0) : BitVec 32) 8#32) = 1#1 := h
  rw [andi_eq_one] at h
  exact WordArith.toNat_lt_of_zero_sle_of_slt_ofNat _ 8 (by omega) ((WordArith.ofBool_eq_one_iff _).1 h.1)
    ((WordArith.ofBool_eq_one_iff _).1 h.2)

/-! ## The value -/

/-- What every device returns, at a token and a column, of arguments that are the whole arrays or their parts. -/
theorem out_apply (m : (ℓ : Loc nD τ sig) → Buf (Elt Ideal) ℓ) (x : FVec Ideal S512x256 .bf16) (col : IVec S512x1 32)
    (W : FVec Ideal ⟨3, ![8, 256, 512]⟩ .bf16) (hx : ∀ c, xOf m c = x) (hcol : ∀ c, colOf m c = col)
    (hW : ∀ c : Dev nD, wOf m c = Layout.block ⟨3, ![2, 256, 512]⟩ ⟨3, ![8, 256, 512]⟩ 0 4 c W (by decide))
    (hlt : ∀ t, (col (ix2 t 0)).toNat < 8) (c : Dev nD) (t o : Fin 512) :
    outVal (colOf m c) (gath m) (ix2 t o) = moe x col W t o := by
  have hrow : ∀ d u, rowOf m d (ix2 0 u) = col (ix2 u 0) := fun d u => (rowOf_apply m d u).trans (by rw [hcol])
  have ht := hlt t
  rw [hcol c]
  unfold moe
  let d : Fin 4 := ⟨(col (ix2 t 0)).toNat / 2, by omega⟩
  let b : Fin 2 := ⟨(col (ix2 t 0)).toNat % 2, by omega⟩
  by_cases hr : rank (fun u => col (ix2 u 0)) t < 51
  · let s : Fin 112 := ⟨51 * b.val + rank (fun u => col (ix2 u 0)) t, by have := b.isLt; omega⟩
    rw [outVal_apply col _ t o ht d s rfl (fun _ => rfl), if_pos hr, if_pos hr, gath_apply]
    have he : rowOf m d (ix2 0 t) = BitVec.ofNat 32 (2 * d.val + b.val) := by
      rw [hrow]
      apply BitVec.eq_of_toNat_eq
      rw [BitVec.toNat_ofNat]
      show _ = (2 * ((col (ix2 t 0)).toNat / 2) + (col (ix2 t 0)).toNat % 2) % 2 ^ 32
      omega
    have hrank : (fun u => rowOf m d (ix2 0 u)) = fun u => col (ix2 u 0) := funext fun u => hrow d u
    rw [slotVal_apply d _ _ _ s o (fun u => by rw [hrow]; exact hlt u) t b he (by rw [hrank]; exact hr) (by rw [hrank])]
    refine Finset.sum_congr rfl fun k _ => ?_
    rw [hx, hW, expert_block W d b k o (expert (col (ix2 t 0)))
      (by rw [expert_val ht]; show _ = 2 * ((col (ix2 t 0)).toNat / 2) + (col (ix2 t 0)).toNat % 2; omega)]
  · rw [outVal_apply col _ t o ht d 0 rfl (fun h => absurd h hr), if_neg hr, if_neg hr]

/-- Over the extended reals the kernel on its four devices computes the reference's result. -/
theorem algebraic :
    Cert.algebraic_KernelIdeal_ReferenceIdeal_pre_routed_KernelIdeal (hPre_routed_KernelIdeal := preFacts) := by
  intro m g m' g' hpre hagree
  let c' : Dev Cert.ReferenceIdeal.nD := 0
  have hlt : ∀ t : Fin 512, (m' ((c'.tc : Thread Cert.ReferenceIdeal.nD Cert.ReferenceIdeal.τ).loc Cert.ReferenceIdeal.main_arg2) (ix2 t 0) : BitVec 32).toNat < 8 := by
    intro t
    have h := routed_lt m hpre 0 t
    rw [(hagree 0).2.2.1] at h
    exact h
  refine ⟨Cert.ReferenceIdeal.Moe.refVal
      (m' ((c'.tc : Thread Cert.ReferenceIdeal.nD Cert.ReferenceIdeal.τ).loc Cert.ReferenceIdeal.main_arg0))
      (m' ((c'.tc : Thread Cert.ReferenceIdeal.nD Cert.ReferenceIdeal.τ).loc Cert.ReferenceIdeal.main_arg2))
      (m' ((c'.tc : Thread Cert.ReferenceIdeal.nD Cert.ReferenceIdeal.τ).loc Cert.ReferenceIdeal.main_arg3)), ?_, ?_⟩
  · refine (θ_run defs _ _).mono (fun _ h c => ⟨(h.1 c).2.2.2.2.trans ?_, (h.1 c).1, (h.1 c).2.1, (h.1 c).2.2.1, (h.1 c).2.2.2.1⟩)
      (run_main m g)
    refine funext fun j => ?_
    rw [show j = ix2 (j 0) (j 1) from ValueIdx.eq_ix2 j]
    refine (out_apply m _ _ _ (fun d => ?_) (fun d => ?_) (fun d => ?_) hlt c (j 0) (j 1)).trans
      (Cert.ReferenceIdeal.Moe.refVal_apply _ _ _ (j 0) (j 1) (hlt (j 0))).symm
    · exact (V₁_of_ne m d (b := Proc.devRef .tc main_arg0) (by decide)).trans (hagree d).1
    · exact (V₁_of_ne m d (b := Proc.devRef .tc main_arg2) (by decide)).trans (hagree d).2.2.1
    · exact (V₁_of_ne m d (b := Proc.devRef .tc main_arg3) (by decide)).trans (hagree d).2.2.2
  · exact (θ_run Cert.ReferenceIdeal.defs _ _).mono (fun _ h => h 0) (Cert.ReferenceIdeal.Value.run (F := Ideal) m' g')

end Cert.KernelIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that is claimed of the kernel on its four devices and of the reference. -/
theorem claim : Cert.Claim :=
  ⟨Cert.Kernel.Gen.facts, Cert.KernelIdeal.Gen.facts, Cert.ReferenceIdeal.Gen.facts, Cert.KernelIdeal.Moe.preFacts,
    Cert.KernelIdeal.Moe.preFactsRef, Cert.KernelIdeal.Moe.frame_kernel, Cert.KernelIdeal.Moe.frame_kernelIdeal,
    Cert.KernelIdeal.Moe.frame_kernelIdeal_routed, Cert.KernelIdeal.Moe.frame_reference,
    Cert.KernelIdeal.Moe.frame_reference_routed, trivial, Cert.KernelIdeal.Moe.algebraic⟩

end Cert.Proof

end
